-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x64x64 : Shape := ⟨3, ![16384, 64, 64]⟩
abbrev S8 : Shape := ⟨1, ![8]⟩
abbrev S64 : Shape := ⟨1, ![64]⟩
abbrev S16 : Shape := ⟨1, ![16]⟩
abbrev S1x8 : Shape := ⟨2, ![1, 8]⟩
abbrev S64x64 : Shape := ⟨2, ![64, 64]⟩
abbrev S4096 : Shape := ⟨1, ![4096]⟩
abbrev S1x4096 : Shape := ⟨2, ![1, 4096]⟩
abbrev S_ : Shape := ⟨0, ![]⟩
abbrev S4096x1 : Shape := ⟨2, ![4096, 1]⟩
abbrev S1024x64x64 : Shape := ⟨3, ![1024, 64, 64]⟩
abbrev S262144x16 : Shape := ⟨2, ![262144, 16]⟩
abbrev S8192 : Shape := ⟨1, ![8192]⟩
abbrev S1024 : Shape := ⟨1, ![1024]⟩
abbrev S4096x16 : Shape := ⟨2, ![4096, 16]⟩
abbrev S256 : Shape := ⟨1, ![256]⟩
abbrev S32 : Shape := ⟨1, ![32]⟩
abbrev S1 : Shape := ⟨1, ![1]⟩
abbrev S16384x4096 : Shape := ⟨2, ![16384, 4096]⟩
abbrev S15360x8 : Shape := ⟨2, ![15360, 8]⟩
abbrev S15360x1 : Shape := ⟨2, ![15360, 1]⟩
abbrev S512x4096 : Shape := ⟨2, ![512, 4096]⟩
abbrev S512x8 : Shape := ⟨2, ![512, 8]⟩
abbrev S512x1 : Shape := ⟨2, ![512, 1]⟩
abbrev S1024x8 : Shape := ⟨2, ![1024, 8]⟩
abbrev S16384x8 : Shape := ⟨2, ![16384, 8]⟩
abbrev S15360 : Shape := ⟨1, ![15360]⟩
abbrev S16384 : Shape := ⟨1, ![16384]⟩

abbrev nBuf : Table → Nat
  | .hbm => 29
  | .local .tc .vmem => 9
  | .local .scVector .vmem => 7
  | _ => 0

abbrev bufTy : (tb : Table) → Fin (nBuf tb) → BufTy
  | .hbm, ⟨0, _⟩ => ⟨S16384x64x64, .f32⟩
  | .hbm, ⟨1, _⟩ => ⟨S8, .f32⟩
  | .hbm, ⟨2, _⟩ => ⟨S64, .i1⟩
  | .hbm, ⟨3, _⟩ => ⟨S16, .f32⟩
  | .hbm, ⟨4, _⟩ => ⟨S64, .i32⟩
  | .hbm, ⟨5, _⟩ => ⟨S1x8, .f32⟩
  | .hbm, ⟨6, _⟩ => ⟨S64, .i32⟩
  | .hbm, ⟨7, _⟩ => ⟨S64x64, .i32⟩
  | .hbm, ⟨8, _⟩ => ⟨S4096, .i32⟩
  | .hbm, ⟨9, _⟩ => ⟨S1x4096, .i32⟩
  | .hbm, ⟨10, _⟩ => ⟨S64x64, .i32⟩
  | .hbm, ⟨11, _⟩ => ⟨S64x64, .i32⟩
  | .hbm, ⟨12, _⟩ => ⟨S_, .i32⟩
  | .hbm, ⟨13, _⟩ => ⟨S64x64, .i32⟩
  | .hbm, ⟨14, _⟩ => ⟨S64x64, .i32⟩
  | .hbm, ⟨15, _⟩ => ⟨S64x64, .i1⟩
  | .hbm, ⟨16, _⟩ => ⟨S64x64, .f32⟩
  | .hbm, ⟨17, _⟩ => ⟨S4096x1, .f32⟩
  | .hbm, ⟨18, _⟩ => ⟨S1024x64x64, .f32⟩
  | .hbm, ⟨19, _⟩ => ⟨S262144x16, .f32⟩
  | .hbm, ⟨20, _⟩ => ⟨S8192, .f32⟩
  | .hbm, ⟨21, _⟩ => ⟨S1024, .f32⟩
  | .hbm, ⟨22, _⟩ => ⟨S16384x4096, .f32⟩
  | .hbm, ⟨23, _⟩ => ⟨S15360x8, .f32⟩
  | .hbm, ⟨24, _⟩ => ⟨S15360x1, .f32⟩
  | .hbm, ⟨25, _⟩ => ⟨S1024x8, .f32⟩
  | .hbm, ⟨26, _⟩ => ⟨S16384x8, .f32⟩
  | .hbm, ⟨27, _⟩ => ⟨S15360, .f32⟩
  | .hbm, ⟨28, _⟩ => ⟨S16384, .f32⟩
  | .local .tc .vmem, ⟨0, _⟩ => ⟨S512x4096, .f32⟩
  | .local .tc .vmem, ⟨1, _⟩ => ⟨S512x4096, .f32⟩
  | .local .tc .vmem, ⟨2, _⟩ => ⟨S1x8, .f32⟩
  | .local .tc .vmem, ⟨3, _⟩ => ⟨S1x4096, .i32⟩
  | .local .tc .vmem, ⟨4, _⟩ => ⟨S4096x1, .f32⟩
  | .local .tc .vmem, ⟨5, _⟩ => ⟨S512x8, .f32⟩
  | .local .tc .vmem, ⟨6, _⟩ => ⟨S512x8, .f32⟩
  | .local .tc .vmem, ⟨7, _⟩ => ⟨S512x1, .f32⟩
  | .local .tc .vmem, ⟨8, _⟩ => ⟨S512x1, .f32⟩
  | .local .scVector .vmem, ⟨0, _⟩ => ⟨S4096x16, .f32⟩
  | .local .scVector .vmem, ⟨1, _⟩ => ⟨S64, .i32⟩
  | .local .scVector .vmem, ⟨2, _⟩ => ⟨S1024, .i32⟩
  | .local .scVector .vmem, ⟨3, _⟩ => ⟨S16, .f32⟩
  | .local .scVector .vmem, ⟨4, _⟩ => ⟨S16, .f32⟩
  | .local .scVector .vmem, ⟨5, _⟩ => ⟨S256, .f32⟩
  | .local .scVector .vmem, ⟨6, _⟩ => ⟨S32, .f32⟩
  | _, _ => ⟨S16384x64x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16_0 : Ref sig .tc := ⟨.hbm, 20, rfl⟩
abbrev main_v16_1 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v15_scv : Ref sig .scVector := ⟨.hbm, 19, rfl⟩
abbrev main_v0_scv : Ref sig .scVector := ⟨.hbm, 3, rfl⟩
abbrev main_v1_scv : Ref sig .scVector := ⟨.hbm, 4, rfl⟩
abbrev main_v16_0_scv : Ref sig .scVector := ⟨.hbm, 20, rfl⟩
abbrev main_v16_1_scv : Ref sig .scVector := ⟨.hbm, 21, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg4_1 : Ref sig .tc := ⟨.vmem, 6, rfl⟩
abbrev cc1_stg5_0 : Ref sig .tc := ⟨.vmem, 7, rfl⟩
abbrev cc1_stg5_1 : Ref sig .tc := ⟨.vmem, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_6 : BitVec 32 := 0#32
  let c2_i32_7 : BitVec 32 := 2#32
  let v274 : BitVec 32 := Scalar.addi c0_i32_6 c2_i32_7
  let c1_i32 : BitVec 32 := 1#32
  ⟨c0_i32_6, v274, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_6 : BitVec 32 := 0#32
  let c1_i32 : BitVec 32 := 1#32
  let arg15 : BitVec 32 := Scf.iv c0_i32_6 c1_i32 k0_t1
  let c16_i32 : BitVec 32 := 16#32
  let v278 : BitVec 32 := Scalar.muli arg15 c16_i32
  let v279 : BitVec 32 := Scalar.addi v2 v278
  let c256_i32_12 : BitVec 32 := 256#32
  let v280 : BitVec 32 := Scalar.muli v279 c256_i32_12
  let c0_i32_361_r2 : BitVec 32 := 0#32
  ![v280.toNat, 0]

def k0_chk1 (v5 : IVec S16 32) (v273 : IVec S16 32) : Prop :=
  (∀ a x, ((![v5, v273] : Fin 2 → IVec S16 32) a x).toNat < S4096x16.size a)
theorem k0_idx1_inb : ∀ (v5 : IVec S16 32) (v273 : IVec S16 32) (k0_hw1 : k0_chk1 v5 v273), ∀ a x, ((![v5, v273] : Fin 2 → IVec S16 32) a x).toNat < S4096x16.size a := fun v5 v273 k0_hw1 => k0_hw1

def k0_chk2 (v273 : IVec S16 32) (v283 : IVec S16 32) : Prop :=
  (∀ a x, ((![v283, v273] : Fin 2 → IVec S16 32) a x).toNat < S4096x16.size a)
theorem k0_idx2_inb : ∀ (v273 : IVec S16 32) (v283 : IVec S16 32) (k0_hw2 : k0_chk2 v273 v283), ∀ a x, ((![v283, v273] : Fin 2 → IVec S16 32) a x).toNat < S4096x16.size a := fun v273 v283 k0_hw2 => k0_hw2

def k0_chk3 (v290 : IVec S16 32) (v291 : IVec S16 32) : Prop :=
  (∀ a x, ((![v290, v291] : Fin 2 → IVec S16 32) a x).toNat < S4096x16.size a)
theorem k0_idx3_inb : ∀ (v290 : IVec S16 32) (v291 : IVec S16 32) (k0_hw3 : k0_chk3 v290 v291), ∀ a x, ((![v290, v291] : Fin 2 → IVec S16 32) a x).toNat < S4096x16.size a := fun v290 v291 k0_hw3 => k0_hw3

def k0_chk4 (v302 : IVec S16 32) (v303 : IVec S16 32) : Prop :=
  (∀ a x, ((![v302, v303] : Fin 2 → IVec S16 32) a x).toNat < S4096x16.size a)
theorem k0_idx4_inb : ∀ (v302 : IVec S16 32) (v303 : IVec S16 32) (k0_hw4 : k0_chk4 v302 v303), ∀ a x, ((![v302, v303] : Fin 2 → IVec S16 32) a x).toNat < S4096x16.size a := fun v302 v303 k0_hw4 => k0_hw4

def k0_chk5 (v314 : IVec S16 32) (v315 : IVec S16 32) : Prop :=
  (∀ a x, ((![v314, v315] : Fin 2 → IVec S16 32) a x).toNat < S4096x16.size a)
theorem k0_idx5_inb : ∀ (v314 : IVec S16 32) (v315 : IVec S16 32) (k0_hw5 : k0_chk5 v314 v315), ∀ a x, ((![v314, v315] : Fin 2 → IVec S16 32) a x).toNat < S4096x16.size a := fun v314 v315 k0_hw5 => k0_hw5

def k0_chk6 (v326 : IVec S16 32) (v327 : IVec S16 32) : Prop :=
  (∀ a x, ((![v326, v327] : Fin 2 → IVec S16 32) a x).toNat < S4096x16.size a)
theorem k0_idx6_inb : ∀ (v326 : IVec S16 32) (v327 : IVec S16 32) (k0_hw6 : k0_chk6 v326 v327), ∀ a x, ((![v326, v327] : Fin 2 → IVec S16 32) a x).toNat < S4096x16.size a := fun v326 v327 k0_hw6 => k0_hw6

def k0_chk7 (v338 : IVec S16 32) (v339 : IVec S16 32) : Prop :=
  (∀ a x, ((![v338, v339] : Fin 2 → IVec S16 32) a x).toNat < S4096x16.size a)
theorem k0_idx7_inb : ∀ (v338 : IVec S16 32) (v339 : IVec S16 32) (k0_hw7 : k0_chk7 v338 v339), ∀ a x, ((![v338, v339] : Fin 2 → IVec S16 32) a x).toNat < S4096x16.size a := fun v338 v339 k0_hw7 => k0_hw7

def k0_chk8 (v350 : IVec S16 32) (v351 : IVec S16 32) : Prop :=
  (∀ a x, ((![v350, v351] : Fin 2 → IVec S16 32) a x).toNat < S4096x16.size a)
theorem k0_idx8_inb : ∀ (v350 : IVec S16 32) (v351 : IVec S16 32) (k0_hw8 : k0_chk8 v350 v351), ∀ a x, ((![v350, v351] : Fin 2 → IVec S16 32) a x).toNat < S4096x16.size a := fun v350 v351 k0_hw8 => k0_hw8

def k0_chk9 (v362 : IVec S16 32) (v363 : IVec S16 32) : Prop :=
  (∀ a x, ((![v362, v363] : Fin 2 → IVec S16 32) a x).toNat < S4096x16.size a)
theorem k0_idx9_inb : ∀ (v362 : IVec S16 32) (v363 : IVec S16 32) (k0_hw9 : k0_chk9 v362 v363), ∀ a x, ((![v362, v363] : Fin 2 → IVec S16 32) a x).toNat < S4096x16.size a := fun v362 v363 k0_hw9 => k0_hw9

def k0_chk10 (v374 : IVec S16 32) (v375 : IVec S16 32) : Prop :=
  (∀ a x, ((![v374, v375] : Fin 2 → IVec S16 32) a x).toNat < S4096x16.size a)
theorem k0_idx10_inb : ∀ (v374 : IVec S16 32) (v375 : IVec S16 32) (k0_hw10 : k0_chk10 v374 v375), ∀ a x, ((![v374, v375] : Fin 2 → IVec S16 32) a x).toNat < S4096x16.size a := fun v374 v375 k0_hw10 => k0_hw10

def k0_chk11 (v386 : IVec S16 32) (v387 : IVec S16 32) : Prop :=
  (∀ a x, ((![v386, v387] : Fin 2 → IVec S16 32) a x).toNat < S4096x16.size a)
theorem k0_idx11_inb : ∀ (v386 : IVec S16 32) (v387 : IVec S16 32) (k0_hw11 : k0_chk11 v386 v387), ∀ a x, ((![v386, v387] : Fin 2 → IVec S16 32) a x).toNat < S4096x16.size a := fun v386 v387 k0_hw11 => k0_hw11

def k0_chk12 (v398 : IVec S16 32) (v399 : IVec S16 32) : Prop :=
  (∀ a x, ((![v398, v399] : Fin 2 → IVec S16 32) a x).toNat < S4096x16.size a)
theorem k0_idx12_inb : ∀ (v398 : IVec S16 32) (v399 : IVec S16 32) (k0_hw12 : k0_chk12 v398 v399), ∀ a x, ((![v398, v399] : Fin 2 → IVec S16 32) a x).toNat < S4096x16.size a := fun v398 v399 k0_hw12 => k0_hw12

def k0_chk13 (v410 : IVec S16 32) (v411 : IVec S16 32) : Prop :=
  (∀ a x, ((![v410, v411] : Fin 2 → IVec S16 32) a x).toNat < S4096x16.size a)
theorem k0_idx13_inb : ∀ (v410 : IVec S16 32) (v411 : IVec S16 32) (k0_hw13 : k0_chk13 v410 v411), ∀ a x, ((![v410, v411] : Fin 2 → IVec S16 32) a x).toNat < S4096x16.size a := fun v410 v411 k0_hw13 => k0_hw13

def k0_chk14 (v422 : IVec S16 32) (v423 : IVec S16 32) : Prop :=
  (∀ a x, ((![v422, v423] : Fin 2 → IVec S16 32) a x).toNat < S4096x16.size a)
theorem k0_idx14_inb : ∀ (v422 : IVec S16 32) (v423 : IVec S16 32) (k0_hw14 : k0_chk14 v422 v423), ∀ a x, ((![v422, v423] : Fin 2 → IVec S16 32) a x).toNat < S4096x16.size a := fun v422 v423 k0_hw14 => k0_hw14

def k0_chk15 (v434 : IVec S16 32) (v435 : IVec S16 32) : Prop :=
  (∀ a x, ((![v434, v435] : Fin 2 → IVec S16 32) a x).toNat < S4096x16.size a)
theorem k0_idx15_inb : ∀ (v434 : IVec S16 32) (v435 : IVec S16 32) (k0_hw15 : k0_chk15 v434 v435), ∀ a x, ((![v434, v435] : Fin 2 → IVec S16 32) a x).toNat < S4096x16.size a := fun v434 v435 k0_hw15 => k0_hw15

def k0_chk16 (v446 : IVec S16 32) (v447 : IVec S16 32) : Prop :=
  (∀ a x, ((![v446, v447] : Fin 2 → IVec S16 32) a x).toNat < S4096x16.size a)
theorem k0_idx16_inb : ∀ (v446 : IVec S16 32) (v447 : IVec S16 32) (k0_hw16 : k0_chk16 v446 v447), ∀ a x, ((![v446, v447] : Fin 2 → IVec S16 32) a x).toNat < S4096x16.size a := fun v446 v447 k0_hw16 => k0_hw16

def k0_chk17 (v458 : IVec S16 32) (v459 : IVec S16 32) : Prop :=
  (∀ a x, ((![v458, v459] : Fin 2 → IVec S16 32) a x).toNat < S4096x16.size a)
theorem k0_idx17_inb : ∀ (v458 : IVec S16 32) (v459 : IVec S16 32) (k0_hw17 : k0_chk17 v458 v459), ∀ a x, ((![v458, v459] : Fin 2 → IVec S16 32) a x).toNat < S4096x16.size a := fun v458 v459 k0_hw17 => k0_hw17

def k0_chk18 (v470 : IVec S16 32) (v471 : IVec S16 32) : Prop :=
  (∀ a x, ((![v470, v471] : Fin 2 → IVec S16 32) a x).toNat < S4096x16.size a)
theorem k0_idx18_inb : ∀ (v470 : IVec S16 32) (v471 : IVec S16 32) (k0_hw18 : k0_chk18 v470 v471), ∀ a x, ((![v470, v471] : Fin 2 → IVec S16 32) a x).toNat < S4096x16.size a := fun v470 v471 k0_hw18 => k0_hw18

def k0_chk19 (v482 : IVec S16 32) (v483 : IVec S16 32) : Prop :=
  (∀ a x, ((![v482, v483] : Fin 2 → IVec S16 32) a x).toNat < S4096x16.size a)
theorem k0_idx19_inb : ∀ (v482 : IVec S16 32) (v483 : IVec S16 32) (k0_hw19 : k0_chk19 v482 v483), ∀ a x, ((![v482, v483] : Fin 2 → IVec S16 32) a x).toNat < S4096x16.size a := fun v482 v483 k0_hw19 => k0_hw19

def k0_chk20 (v494 : IVec S16 32) (v495 : IVec S16 32) : Prop :=
  (∀ a x, ((![v494, v495] : Fin 2 → IVec S16 32) a x).toNat < S4096x16.size a)
theorem k0_idx20_inb : ∀ (v494 : IVec S16 32) (v495 : IVec S16 32) (k0_hw20 : k0_chk20 v494 v495), ∀ a x, ((![v494, v495] : Fin 2 → IVec S16 32) a x).toNat < S4096x16.size a := fun v494 v495 k0_hw20 => k0_hw20

def k0_chk21 (v506 : IVec S16 32) (v507 : IVec S16 32) : Prop :=
  (∀ a x, ((![v506, v507] : Fin 2 → IVec S16 32) a x).toNat < S4096x16.size a)
theorem k0_idx21_inb : ∀ (v506 : IVec S16 32) (v507 : IVec S16 32) (k0_hw21 : k0_chk21 v506 v507), ∀ a x, ((![v506, v507] : Fin 2 → IVec S16 32) a x).toNat < S4096x16.size a := fun v506 v507 k0_hw21 => k0_hw21

def k0_chk22 (v518 : IVec S16 32) (v519 : IVec S16 32) : Prop :=
  (∀ a x, ((![v518, v519] : Fin 2 → IVec S16 32) a x).toNat < S4096x16.size a)
theorem k0_idx22_inb : ∀ (v518 : IVec S16 32) (v519 : IVec S16 32) (k0_hw22 : k0_chk22 v518 v519), ∀ a x, ((![v518, v519] : Fin 2 → IVec S16 32) a x).toNat < S4096x16.size a := fun v518 v519 k0_hw22 => k0_hw22

def k0_chk23 (v530 : IVec S16 32) (v531 : IVec S16 32) : Prop :=
  (∀ a x, ((![v530, v531] : Fin 2 → IVec S16 32) a x).toNat < S4096x16.size a)
theorem k0_idx23_inb : ∀ (v530 : IVec S16 32) (v531 : IVec S16 32) (k0_hw23 : k0_chk23 v530 v531), ∀ a x, ((![v530, v531] : Fin 2 → IVec S16 32) a x).toNat < S4096x16.size a := fun v530 v531 k0_hw23 => k0_hw23

def k0_chk24 (v542 : IVec S16 32) (v543 : IVec S16 32) : Prop :=
  (∀ a x, ((![v542, v543] : Fin 2 → IVec S16 32) a x).toNat < S4096x16.size a)
theorem k0_idx24_inb : ∀ (v542 : IVec S16 32) (v543 : IVec S16 32) (k0_hw24 : k0_chk24 v542 v543), ∀ a x, ((![v542, v543] : Fin 2 → IVec S16 32) a x).toNat < S4096x16.size a := fun v542 v543 k0_hw24 => k0_hw24

def k0_chk25 (v554 : IVec S16 32) (v555 : IVec S16 32) : Prop :=
  (∀ a x, ((![v554, v555] : Fin 2 → IVec S16 32) a x).toNat < S4096x16.size a)
theorem k0_idx25_inb : ∀ (v554 : IVec S16 32) (v555 : IVec S16 32) (k0_hw25 : k0_chk25 v554 v555), ∀ a x, ((![v554, v555] : Fin 2 → IVec S16 32) a x).toNat < S4096x16.size a := fun v554 v555 k0_hw25 => k0_hw25

def k0_chk26 (v566 : IVec S16 32) (v567 : IVec S16 32) : Prop :=
  (∀ a x, ((![v566, v567] : Fin 2 → IVec S16 32) a x).toNat < S4096x16.size a)
theorem k0_idx26_inb : ∀ (v566 : IVec S16 32) (v567 : IVec S16 32) (k0_hw26 : k0_chk26 v566 v567), ∀ a x, ((![v566, v567] : Fin 2 → IVec S16 32) a x).toNat < S4096x16.size a := fun v566 v567 k0_hw26 => k0_hw26

def k0_chk27 (v578 : IVec S16 32) (v579 : IVec S16 32) : Prop :=
  (∀ a x, ((![v578, v579] : Fin 2 → IVec S16 32) a x).toNat < S4096x16.size a)
theorem k0_idx27_inb : ∀ (v578 : IVec S16 32) (v579 : IVec S16 32) (k0_hw27 : k0_chk27 v578 v579), ∀ a x, ((![v578, v579] : Fin 2 → IVec S16 32) a x).toNat < S4096x16.size a := fun v578 v579 k0_hw27 => k0_hw27

def k0_chk28 (v590 : IVec S16 32) (v591 : IVec S16 32) : Prop :=
  (∀ a x, ((![v590, v591] : Fin 2 → IVec S16 32) a x).toNat < S4096x16.size a)
theorem k0_idx28_inb : ∀ (v590 : IVec S16 32) (v591 : IVec S16 32) (k0_hw28 : k0_chk28 v590 v591), ∀ a x, ((![v590, v591] : Fin 2 → IVec S16 32) a x).toNat < S4096x16.size a := fun v590 v591 k0_hw28 => k0_hw28

def k0_chk29 (v602 : IVec S16 32) (v603 : IVec S16 32) : Prop :=
  (∀ a x, ((![v602, v603] : Fin 2 → IVec S16 32) a x).toNat < S4096x16.size a)
theorem k0_idx29_inb : ∀ (v602 : IVec S16 32) (v603 : IVec S16 32) (k0_hw29 : k0_chk29 v602 v603), ∀ a x, ((![v602, v603] : Fin 2 → IVec S16 32) a x).toNat < S4096x16.size a := fun v602 v603 k0_hw29 => k0_hw29

def k0_chk30 (v614 : IVec S16 32) (v615 : IVec S16 32) : Prop :=
  (∀ a x, ((![v614, v615] : Fin 2 → IVec S16 32) a x).toNat < S4096x16.size a)
theorem k0_idx30_inb : ∀ (v614 : IVec S16 32) (v615 : IVec S16 32) (k0_hw30 : k0_chk30 v614 v615), ∀ a x, ((![v614, v615] : Fin 2 → IVec S16 32) a x).toNat < S4096x16.size a := fun v614 v615 k0_hw30 => k0_hw30

def k0_chk31 (v626 : IVec S16 32) (v627 : IVec S16 32) : Prop :=
  (∀ a x, ((![v626, v627] : Fin 2 → IVec S16 32) a x).toNat < S4096x16.size a)
theorem k0_idx31_inb : ∀ (v626 : IVec S16 32) (v627 : IVec S16 32) (k0_hw31 : k0_chk31 v626 v627), ∀ a x, ((![v626, v627] : Fin 2 → IVec S16 32) a x).toNat < S4096x16.size a := fun v626 v627 k0_hw31 => k0_hw31

def k0_chk32 (v638 : IVec S16 32) (v639 : IVec S16 32) : Prop :=
  (∀ a x, ((![v638, v639] : Fin 2 → IVec S16 32) a x).toNat < S4096x16.size a)
theorem k0_idx32_inb : ∀ (v638 : IVec S16 32) (v639 : IVec S16 32) (k0_hw32 : k0_chk32 v638 v639), ∀ a x, ((![v638, v639] : Fin 2 → IVec S16 32) a x).toNat < S4096x16.size a := fun v638 v639 k0_hw32 => k0_hw32

def k0_chk33 (v650 : IVec S16 32) (v651 : IVec S16 32) : Prop :=
  (∀ a x, ((![v650, v651] : Fin 2 → IVec S16 32) a x).toNat < S4096x16.size a)
theorem k0_idx33_inb : ∀ (v650 : IVec S16 32) (v651 : IVec S16 32) (k0_hw33 : k0_chk33 v650 v651), ∀ a x, ((![v650, v651] : Fin 2 → IVec S16 32) a x).toNat < S4096x16.size a := fun v650 v651 k0_hw33 => k0_hw33

def k0_chk34 (v662 : IVec S16 32) (v663 : IVec S16 32) : Prop :=
  (∀ a x, ((![v662, v663] : Fin 2 → IVec S16 32) a x).toNat < S4096x16.size a)
theorem k0_idx34_inb : ∀ (v662 : IVec S16 32) (v663 : IVec S16 32) (k0_hw34 : k0_chk34 v662 v663), ∀ a x, ((![v662, v663] : Fin 2 → IVec S16 32) a x).toNat < S4096x16.size a := fun v662 v663 k0_hw34 => k0_hw34

def k0_chk35 (v674 : IVec S16 32) (v675 : IVec S16 32) : Prop :=
  (∀ a x, ((![v674, v675] : Fin 2 → IVec S16 32) a x).toNat < S4096x16.size a)
theorem k0_idx35_inb : ∀ (v674 : IVec S16 32) (v675 : IVec S16 32) (k0_hw35 : k0_chk35 v674 v675), ∀ a x, ((![v674, v675] : Fin 2 → IVec S16 32) a x).toNat < S4096x16.size a := fun v674 v675 k0_hw35 => k0_hw35

def k0_chk36 (v686 : IVec S16 32) (v687 : IVec S16 32) : Prop :=
  (∀ a x, ((![v686, v687] : Fin 2 → IVec S16 32) a x).toNat < S4096x16.size a)
theorem k0_idx36_inb : ∀ (v686 : IVec S16 32) (v687 : IVec S16 32) (k0_hw36 : k0_chk36 v686 v687), ∀ a x, ((![v686, v687] : Fin 2 → IVec S16 32) a x).toNat < S4096x16.size a := fun v686 v687 k0_hw36 => k0_hw36

def k0_chk37 (v698 : IVec S16 32) (v699 : IVec S16 32) : Prop :=
  (∀ a x, ((![v698, v699] : Fin 2 → IVec S16 32) a x).toNat < S4096x16.size a)
theorem k0_idx37_inb : ∀ (v698 : IVec S16 32) (v699 : IVec S16 32) (k0_hw37 : k0_chk37 v698 v699), ∀ a x, ((![v698, v699] : Fin 2 → IVec S16 32) a x).toNat < S4096x16.size a := fun v698 v699 k0_hw37 => k0_hw37

def k0_chk38 (v710 : IVec S16 32) (v711 : IVec S16 32) : Prop :=
  (∀ a x, ((![v710, v711] : Fin 2 → IVec S16 32) a x).toNat < S4096x16.size a)
theorem k0_idx38_inb : ∀ (v710 : IVec S16 32) (v711 : IVec S16 32) (k0_hw38 : k0_chk38 v710 v711), ∀ a x, ((![v710, v711] : Fin 2 → IVec S16 32) a x).toNat < S4096x16.size a := fun v710 v711 k0_hw38 => k0_hw38

def k0_chk39 (v722 : IVec S16 32) (v723 : IVec S16 32) : Prop :=
  (∀ a x, ((![v722, v723] : Fin 2 → IVec S16 32) a x).toNat < S4096x16.size a)
theorem k0_idx39_inb : ∀ (v722 : IVec S16 32) (v723 : IVec S16 32) (k0_hw39 : k0_chk39 v722 v723), ∀ a x, ((![v722, v723] : Fin 2 → IVec S16 32) a x).toNat < S4096x16.size a := fun v722 v723 k0_hw39 => k0_hw39

def k0_chk40 (v734 : IVec S16 32) (v735 : IVec S16 32) : Prop :=
  (∀ a x, ((![v734, v735] : Fin 2 → IVec S16 32) a x).toNat < S4096x16.size a)
theorem k0_idx40_inb : ∀ (v734 : IVec S16 32) (v735 : IVec S16 32) (k0_hw40 : k0_chk40 v734 v735), ∀ a x, ((![v734, v735] : Fin 2 → IVec S16 32) a x).toNat < S4096x16.size a := fun v734 v735 k0_hw40 => k0_hw40

def k0_chk41 (v746 : IVec S16 32) (v747 : IVec S16 32) : Prop :=
  (∀ a x, ((![v746, v747] : Fin 2 → IVec S16 32) a x).toNat < S4096x16.size a)
theorem k0_idx41_inb : ∀ (v746 : IVec S16 32) (v747 : IVec S16 32) (k0_hw41 : k0_chk41 v746 v747), ∀ a x, ((![v746, v747] : Fin 2 → IVec S16 32) a x).toNat < S4096x16.size a := fun v746 v747 k0_hw41 => k0_hw41

def k0_chk42 (v758 : IVec S16 32) (v759 : IVec S16 32) : Prop :=
  (∀ a x, ((![v758, v759] : Fin 2 → IVec S16 32) a x).toNat < S4096x16.size a)
theorem k0_idx42_inb : ∀ (v758 : IVec S16 32) (v759 : IVec S16 32) (k0_hw42 : k0_chk42 v758 v759), ∀ a x, ((![v758, v759] : Fin 2 → IVec S16 32) a x).toNat < S4096x16.size a := fun v758 v759 k0_hw42 => k0_hw42

def k0_chk43 (v770 : IVec S16 32) (v771 : IVec S16 32) : Prop :=
  (∀ a x, ((![v770, v771] : Fin 2 → IVec S16 32) a x).toNat < S4096x16.size a)
theorem k0_idx43_inb : ∀ (v770 : IVec S16 32) (v771 : IVec S16 32) (k0_hw43 : k0_chk43 v770 v771), ∀ a x, ((![v770, v771] : Fin 2 → IVec S16 32) a x).toNat < S4096x16.size a := fun v770 v771 k0_hw43 => k0_hw43

def k0_chk44 (v782 : IVec S16 32) (v783 : IVec S16 32) : Prop :=
  (∀ a x, ((![v782, v783] : Fin 2 → IVec S16 32) a x).toNat < S4096x16.size a)
theorem k0_idx44_inb : ∀ (v782 : IVec S16 32) (v783 : IVec S16 32) (k0_hw44 : k0_chk44 v782 v783), ∀ a x, ((![v782, v783] : Fin 2 → IVec S16 32) a x).toNat < S4096x16.size a := fun v782 v783 k0_hw44 => k0_hw44

def k0_chk45 (v794 : IVec S16 32) (v795 : IVec S16 32) : Prop :=
  (∀ a x, ((![v794, v795] : Fin 2 → IVec S16 32) a x).toNat < S4096x16.size a)
theorem k0_idx45_inb : ∀ (v794 : IVec S16 32) (v795 : IVec S16 32) (k0_hw45 : k0_chk45 v794 v795), ∀ a x, ((![v794, v795] : Fin 2 → IVec S16 32) a x).toNat < S4096x16.size a := fun v794 v795 k0_hw45 => k0_hw45

def k0_chk46 (v806 : IVec S16 32) (v807 : IVec S16 32) : Prop :=
  (∀ a x, ((![v806, v807] : Fin 2 → IVec S16 32) a x).toNat < S4096x16.size a)
theorem k0_idx46_inb : ∀ (v806 : IVec S16 32) (v807 : IVec S16 32) (k0_hw46 : k0_chk46 v806 v807), ∀ a x, ((![v806, v807] : Fin 2 → IVec S16 32) a x).toNat < S4096x16.size a := fun v806 v807 k0_hw46 => k0_hw46

def k0_chk47 (v818 : IVec S16 32) (v819 : IVec S16 32) : Prop :=
  (∀ a x, ((![v818, v819] : Fin 2 → IVec S16 32) a x).toNat < S4096x16.size a)
theorem k0_idx47_inb : ∀ (v818 : IVec S16 32) (v819 : IVec S16 32) (k0_hw47 : k0_chk47 v818 v819), ∀ a x, ((![v818, v819] : Fin 2 → IVec S16 32) a x).toNat < S4096x16.size a := fun v818 v819 k0_hw47 => k0_hw47

def k0_chk48 (v830 : IVec S16 32) (v831 : IVec S16 32) : Prop :=
  (∀ a x, ((![v830, v831] : Fin 2 → IVec S16 32) a x).toNat < S4096x16.size a)
theorem k0_idx48_inb : ∀ (v830 : IVec S16 32) (v831 : IVec S16 32) (k0_hw48 : k0_chk48 v830 v831), ∀ a x, ((![v830, v831] : Fin 2 → IVec S16 32) a x).toNat < S4096x16.size a := fun v830 v831 k0_hw48 => k0_hw48

def k0_chk49 (v842 : IVec S16 32) (v843 : IVec S16 32) : Prop :=
  (∀ a x, ((![v842, v843] : Fin 2 → IVec S16 32) a x).toNat < S4096x16.size a)
theorem k0_idx49_inb : ∀ (v842 : IVec S16 32) (v843 : IVec S16 32) (k0_hw49 : k0_chk49 v842 v843), ∀ a x, ((![v842, v843] : Fin 2 → IVec S16 32) a x).toNat < S4096x16.size a := fun v842 v843 k0_hw49 => k0_hw49

def k0_chk50 (v854 : IVec S16 32) (v855 : IVec S16 32) : Prop :=
  (∀ a x, ((![v854, v855] : Fin 2 → IVec S16 32) a x).toNat < S4096x16.size a)
theorem k0_idx50_inb : ∀ (v854 : IVec S16 32) (v855 : IVec S16 32) (k0_hw50 : k0_chk50 v854 v855), ∀ a x, ((![v854, v855] : Fin 2 → IVec S16 32) a x).toNat < S4096x16.size a := fun v854 v855 k0_hw50 => k0_hw50

def k0_chk51 (v866 : IVec S16 32) (v867 : IVec S16 32) : Prop :=
  (∀ a x, ((![v866, v867] : Fin 2 → IVec S16 32) a x).toNat < S4096x16.size a)
theorem k0_idx51_inb : ∀ (v866 : IVec S16 32) (v867 : IVec S16 32) (k0_hw51 : k0_chk51 v866 v867), ∀ a x, ((![v866, v867] : Fin 2 → IVec S16 32) a x).toNat < S4096x16.size a := fun v866 v867 k0_hw51 => k0_hw51

def k0_chk52 (v878 : IVec S16 32) (v879 : IVec S16 32) : Prop :=
  (∀ a x, ((![v878, v879] : Fin 2 → IVec S16 32) a x).toNat < S4096x16.size a)
theorem k0_idx52_inb : ∀ (v878 : IVec S16 32) (v879 : IVec S16 32) (k0_hw52 : k0_chk52 v878 v879), ∀ a x, ((![v878, v879] : Fin 2 → IVec S16 32) a x).toNat < S4096x16.size a := fun v878 v879 k0_hw52 => k0_hw52

def k0_chk53 (v890 : IVec S16 32) (v891 : IVec S16 32) : Prop :=
  (∀ a x, ((![v890, v891] : Fin 2 → IVec S16 32) a x).toNat < S4096x16.size a)
theorem k0_idx53_inb : ∀ (v890 : IVec S16 32) (v891 : IVec S16 32) (k0_hw53 : k0_chk53 v890 v891), ∀ a x, ((![v890, v891] : Fin 2 → IVec S16 32) a x).toNat < S4096x16.size a := fun v890 v891 k0_hw53 => k0_hw53

def k0_chk54 (v902 : IVec S16 32) (v903 : IVec S16 32) : Prop :=
  (∀ a x, ((![v902, v903] : Fin 2 → IVec S16 32) a x).toNat < S4096x16.size a)
theorem k0_idx54_inb : ∀ (v902 : IVec S16 32) (v903 : IVec S16 32) (k0_hw54 : k0_chk54 v902 v903), ∀ a x, ((![v902, v903] : Fin 2 → IVec S16 32) a x).toNat < S4096x16.size a := fun v902 v903 k0_hw54 => k0_hw54

def k0_chk55 (v914 : IVec S16 32) (v915 : IVec S16 32) : Prop :=
  (∀ a x, ((![v914, v915] : Fin 2 → IVec S16 32) a x).toNat < S4096x16.size a)
theorem k0_idx55_inb : ∀ (v914 : IVec S16 32) (v915 : IVec S16 32) (k0_hw55 : k0_chk55 v914 v915), ∀ a x, ((![v914, v915] : Fin 2 → IVec S16 32) a x).toNat < S4096x16.size a := fun v914 v915 k0_hw55 => k0_hw55

def k0_chk56 (v926 : IVec S16 32) (v927 : IVec S16 32) : Prop :=
  (∀ a x, ((![v926, v927] : Fin 2 → IVec S16 32) a x).toNat < S4096x16.size a)
theorem k0_idx56_inb : ∀ (v926 : IVec S16 32) (v927 : IVec S16 32) (k0_hw56 : k0_chk56 v926 v927), ∀ a x, ((![v926, v927] : Fin 2 → IVec S16 32) a x).toNat < S4096x16.size a := fun v926 v927 k0_hw56 => k0_hw56

def k0_chk57 (v938 : IVec S16 32) (v939 : IVec S16 32) : Prop :=
  (∀ a x, ((![v938, v939] : Fin 2 → IVec S16 32) a x).toNat < S4096x16.size a)
theorem k0_idx57_inb : ∀ (v938 : IVec S16 32) (v939 : IVec S16 32) (k0_hw57 : k0_chk57 v938 v939), ∀ a x, ((![v938, v939] : Fin 2 → IVec S16 32) a x).toNat < S4096x16.size a := fun v938 v939 k0_hw57 => k0_hw57

def k0_chk58 (v950 : IVec S16 32) (v951 : IVec S16 32) : Prop :=
  (∀ a x, ((![v950, v951] : Fin 2 → IVec S16 32) a x).toNat < S4096x16.size a)
theorem k0_idx58_inb : ∀ (v950 : IVec S16 32) (v951 : IVec S16 32) (k0_hw58 : k0_chk58 v950 v951), ∀ a x, ((![v950, v951] : Fin 2 → IVec S16 32) a x).toNat < S4096x16.size a := fun v950 v951 k0_hw58 => k0_hw58

def k0_chk59 (v962 : IVec S16 32) (v963 : IVec S16 32) : Prop :=
  (∀ a x, ((![v962, v963] : Fin 2 → IVec S16 32) a x).toNat < S4096x16.size a)
theorem k0_idx59_inb : ∀ (v962 : IVec S16 32) (v963 : IVec S16 32) (k0_hw59 : k0_chk59 v962 v963), ∀ a x, ((![v962, v963] : Fin 2 → IVec S16 32) a x).toNat < S4096x16.size a := fun v962 v963 k0_hw59 => k0_hw59

def k0_chk60 (v974 : IVec S16 32) (v975 : IVec S16 32) : Prop :=
  (∀ a x, ((![v974, v975] : Fin 2 → IVec S16 32) a x).toNat < S4096x16.size a)
theorem k0_idx60_inb : ∀ (v974 : IVec S16 32) (v975 : IVec S16 32) (k0_hw60 : k0_chk60 v974 v975), ∀ a x, ((![v974, v975] : Fin 2 → IVec S16 32) a x).toNat < S4096x16.size a := fun v974 v975 k0_hw60 => k0_hw60

def k0_chk61 (v986 : IVec S16 32) (v987 : IVec S16 32) : Prop :=
  (∀ a x, ((![v986, v987] : Fin 2 → IVec S16 32) a x).toNat < S4096x16.size a)
theorem k0_idx61_inb : ∀ (v986 : IVec S16 32) (v987 : IVec S16 32) (k0_hw61 : k0_chk61 v986 v987), ∀ a x, ((![v986, v987] : Fin 2 → IVec S16 32) a x).toNat < S4096x16.size a := fun v986 v987 k0_hw61 => k0_hw61

def k0_chk62 (v998 : IVec S16 32) (v999 : IVec S16 32) : Prop :=
  (∀ a x, ((![v998, v999] : Fin 2 → IVec S16 32) a x).toNat < S4096x16.size a)
theorem k0_idx62_inb : ∀ (v998 : IVec S16 32) (v999 : IVec S16 32) (k0_hw62 : k0_chk62 v998 v999), ∀ a x, ((![v998, v999] : Fin 2 → IVec S16 32) a x).toNat < S4096x16.size a := fun v998 v999 k0_hw62 => k0_hw62

def k0_chk63 (v1010 : IVec S16 32) (v1011 : IVec S16 32) : Prop :=
  (∀ a x, ((![v1010, v1011] : Fin 2 → IVec S16 32) a x).toNat < S4096x16.size a)
theorem k0_idx63_inb : ∀ (v1010 : IVec S16 32) (v1011 : IVec S16 32) (k0_hw63 : k0_chk63 v1010 v1011), ∀ a x, ((![v1010, v1011] : Fin 2 → IVec S16 32) a x).toNat < S4096x16.size a := fun v1010 v1011 k0_hw63 => k0_hw63

def k0_chk64 (v1022 : IVec S16 32) (v1023 : IVec S16 32) : Prop :=
  (∀ a x, ((![v1022, v1023] : Fin 2 → IVec S16 32) a x).toNat < S4096x16.size a)
theorem k0_idx64_inb : ∀ (v1022 : IVec S16 32) (v1023 : IVec S16 32) (k0_hw64 : k0_chk64 v1022 v1023), ∀ a x, ((![v1022, v1023] : Fin 2 → IVec S16 32) a x).toNat < S4096x16.size a := fun v1022 v1023 k0_hw64 => k0_hw64

def k0_chk65 (v1034 : IVec S16 32) (v1035 : IVec S16 32) : Prop :=
  (∀ a x, ((![v1034, v1035] : Fin 2 → IVec S16 32) a x).toNat < S4096x16.size a)
theorem k0_idx65_inb : ∀ (v1034 : IVec S16 32) (v1035 : IVec S16 32) (k0_hw65 : k0_chk65 v1034 v1035), ∀ a x, ((![v1034, v1035] : Fin 2 → IVec S16 32) a x).toNat < S4096x16.size a := fun v1034 v1035 k0_hw65 => k0_hw65

def k0_chk66 (v1046 : IVec S16 32) (v1047 : IVec S16 32) : Prop :=
  (∀ a x, ((![v1046, v1047] : Fin 2 → IVec S16 32) a x).toNat < S4096x16.size a)
theorem k0_idx66_inb : ∀ (v1046 : IVec S16 32) (v1047 : IVec S16 32) (k0_hw66 : k0_chk66 v1046 v1047), ∀ a x, ((![v1046, v1047] : Fin 2 → IVec S16 32) a x).toNat < S4096x16.size a := fun v1046 v1047 k0_hw66 => k0_hw66
def k0_off2 (k0_t1 : Fin k0_t1_loop.trips) : Fin 1 → Nat :=
  let c0_i32_6 : BitVec 32 := 0#32
  let c1_i32 : BitVec 32 := 1#32
  let arg15 : BitVec 32 := Scf.iv c0_i32_6 c1_i32 k0_t1
  let c16_i32_331 : BitVec 32 := 16#32
  let v1060 : BitVec 32 := Scalar.muli arg15 c16_i32_331
  let v1061 : Index := Scalar.indexCast v1060
  ![v1061.toNat]

def k0_chk67 (v1065 : IVec S16 32) : Prop :=
  (∀ a x, ((![v1065] : Fin 1 → IVec S16 32) a x).toNat < S16.size a)
theorem k0_idx67_inb : ∀ (v1065 : IVec S16 32) (k0_hw67 : k0_chk67 v1065), ∀ a x, ((![v1065] : Fin 1 → IVec S16 32) a x).toNat < S16.size a := fun v1065 k0_hw67 => k0_hw67
def k0_off3 (k0_t1 : Fin k0_t1_loop.trips) : Fin 1 → Nat :=
  let c0_i32_6 : BitVec 32 := 0#32
  let c1_i32 : BitVec 32 := 1#32
  let arg15 : BitVec 32 := Scf.iv c0_i32_6 c1_i32 k0_t1
  let c16_i32_334 : BitVec 32 := 16#32
  let v1068 : BitVec 32 := Scalar.muli arg15 c16_i32_334
  let c8_i32_335 : BitVec 32 := 8#32
  let v1069 : BitVec 32 := Scalar.muli v1068 c8_i32_335
  let c0_i32_336 : BitVec 32 := 0#32
  let v1070 : BitVec 32 := Scalar.addi v1069 c0_i32_336
  let v1071 : Index := Scalar.indexCast v1070
  ![v1071.toNat]

def k0_chk68 (v1074 : IVec S16 32) : Prop :=
  (∀ a x, ((![v1074] : Fin 1 → IVec S16 32) a x).toNat < S16.size a)
theorem k0_idx68_inb : ∀ (v1074 : IVec S16 32) (k0_hw68 : k0_chk68 v1074), ∀ a x, ((![v1074] : Fin 1 → IVec S16 32) a x).toNat < S16.size a := fun v1074 k0_hw68 => k0_hw68
def k0_off4 (k0_t1 : Fin k0_t1_loop.trips) : Fin 1 → Nat :=
  let c0_i32_6 : BitVec 32 := 0#32
  let c1_i32 : BitVec 32 := 1#32
  let arg15 : BitVec 32 := Scf.iv c0_i32_6 c1_i32 k0_t1
  let c16_i32_338 : BitVec 32 := 16#32
  let v1077 : BitVec 32 := Scalar.muli arg15 c16_i32_338
  let c8_i32_339 : BitVec 32 := 8#32
  let v1078 : BitVec 32 := Scalar.muli v1077 c8_i32_339
  let c16_i32_340 : BitVec 32 := 16#32
  let v1079 : BitVec 32 := Scalar.addi v1078 c16_i32_340
  let v1080 : Index := Scalar.indexCast v1079
  ![v1080.toNat]

def k0_chk69 (v1083 : IVec S16 32) : Prop :=
  (∀ a x, ((![v1083] : Fin 1 → IVec S16 32) a x).toNat < S16.size a)
theorem k0_idx69_inb : ∀ (v1083 : IVec S16 32) (k0_hw69 : k0_chk69 v1083), ∀ a x, ((![v1083] : Fin 1 → IVec S16 32) a x).toNat < S16.size a := fun v1083 k0_hw69 => k0_hw69
def k0_off5 (k0_t1 : Fin k0_t1_loop.trips) : Fin 1 → Nat :=
  let c0_i32_6 : BitVec 32 := 0#32
  let c1_i32 : BitVec 32 := 1#32
  let arg15 : BitVec 32 := Scf.iv c0_i32_6 c1_i32 k0_t1
  let c16_i32_342 : BitVec 32 := 16#32
  let v1086 : BitVec 32 := Scalar.muli arg15 c16_i32_342
  let c8_i32_343 : BitVec 32 := 8#32
  let v1087 : BitVec 32 := Scalar.muli v1086 c8_i32_343
  let c32_i32_344 : BitVec 32 := 32#32
  let v1088 : BitVec 32 := Scalar.addi v1087 c32_i32_344
  let v1089 : Index := Scalar.indexCast v1088
  ![v1089.toNat]

def k0_chk70 (v1092 : IVec S16 32) : Prop :=
  (∀ a x, ((![v1092] : Fin 1 → IVec S16 32) a x).toNat < S16.size a)
theorem k0_idx70_inb : ∀ (v1092 : IVec S16 32) (k0_hw70 : k0_chk70 v1092), ∀ a x, ((![v1092] : Fin 1 → IVec S16 32) a x).toNat < S16.size a := fun v1092 k0_hw70 => k0_hw70
def k0_off6 (k0_t1 : Fin k0_t1_loop.trips) : Fin 1 → Nat :=
  let c0_i32_6 : BitVec 32 := 0#32
  let c1_i32 : BitVec 32 := 1#32
  let arg15 : BitVec 32 := Scf.iv c0_i32_6 c1_i32 k0_t1
  let c16_i32_346 : BitVec 32 := 16#32
  let v1095 : BitVec 32 := Scalar.muli arg15 c16_i32_346
  let c8_i32_347 : BitVec 32 := 8#32
  let v1096 : BitVec 32 := Scalar.muli v1095 c8_i32_347
  let c48_i32_348 : BitVec 32 := 48#32
  let v1097 : BitVec 32 := Scalar.addi v1096 c48_i32_348
  let v1098 : Index := Scalar.indexCast v1097
  ![v1098.toNat]

def k0_chk71 (v1101 : IVec S16 32) : Prop :=
  (∀ a x, ((![v1101] : Fin 1 → IVec S16 32) a x).toNat < S16.size a)
theorem k0_idx71_inb : ∀ (v1101 : IVec S16 32) (k0_hw71 : k0_chk71 v1101), ∀ a x, ((![v1101] : Fin 1 → IVec S16 32) a x).toNat < S16.size a := fun v1101 k0_hw71 => k0_hw71
def k0_off7 (k0_t1 : Fin k0_t1_loop.trips) : Fin 1 → Nat :=
  let c0_i32_6 : BitVec 32 := 0#32
  let c1_i32 : BitVec 32 := 1#32
  let arg15 : BitVec 32 := Scf.iv c0_i32_6 c1_i32 k0_t1
  let c16_i32_350 : BitVec 32 := 16#32
  let v1104 : BitVec 32 := Scalar.muli arg15 c16_i32_350
  let c8_i32_351 : BitVec 32 := 8#32
  let v1105 : BitVec 32 := Scalar.muli v1104 c8_i32_351
  let c64_i32 : BitVec 32 := 64#32
  let v1106 : BitVec 32 := Scalar.addi v1105 c64_i32
  let v1107 : Index := Scalar.indexCast v1106
  ![v1107.toNat]

def k0_chk72 (v1110 : IVec S16 32) : Prop :=
  (∀ a x, ((![v1110] : Fin 1 → IVec S16 32) a x).toNat < S16.size a)
theorem k0_idx72_inb : ∀ (v1110 : IVec S16 32) (k0_hw72 : k0_chk72 v1110), ∀ a x, ((![v1110] : Fin 1 → IVec S16 32) a x).toNat < S16.size a := fun v1110 k0_hw72 => k0_hw72
def k0_off8 (k0_t1 : Fin k0_t1_loop.trips) : Fin 1 → Nat :=
  let c0_i32_6 : BitVec 32 := 0#32
  let c1_i32 : BitVec 32 := 1#32
  let arg15 : BitVec 32 := Scf.iv c0_i32_6 c1_i32 k0_t1
  let c16_i32_353 : BitVec 32 := 16#32
  let v1113 : BitVec 32 := Scalar.muli arg15 c16_i32_353
  let c8_i32_354 : BitVec 32 := 8#32
  let v1114 : BitVec 32 := Scalar.muli v1113 c8_i32_354
  let c80_i32 : BitVec 32 := 80#32
  let v1115 : BitVec 32 := Scalar.addi v1114 c80_i32
  let v1116 : Index := Scalar.indexCast v1115
  ![v1116.toNat]

def k0_chk73 (v1119 : IVec S16 32) : Prop :=
  (∀ a x, ((![v1119] : Fin 1 → IVec S16 32) a x).toNat < S16.size a)
theorem k0_idx73_inb : ∀ (v1119 : IVec S16 32) (k0_hw73 : k0_chk73 v1119), ∀ a x, ((![v1119] : Fin 1 → IVec S16 32) a x).toNat < S16.size a := fun v1119 k0_hw73 => k0_hw73
def k0_off9 (k0_t1 : Fin k0_t1_loop.trips) : Fin 1 → Nat :=
  let c0_i32_6 : BitVec 32 := 0#32
  let c1_i32 : BitVec 32 := 1#32
  let arg15 : BitVec 32 := Scf.iv c0_i32_6 c1_i32 k0_t1
  let c16_i32_356 : BitVec 32 := 16#32
  let v1122 : BitVec 32 := Scalar.muli arg15 c16_i32_356
  let c8_i32_357 : BitVec 32 := 8#32
  let v1123 : BitVec 32 := Scalar.muli v1122 c8_i32_357
  let c96_i32 : BitVec 32 := 96#32
  let v1124 : BitVec 32 := Scalar.addi v1123 c96_i32
  let v1125 : Index := Scalar.indexCast v1124
  ![v1125.toNat]

def k0_chk74 (v1128 : IVec S16 32) : Prop :=
  (∀ a x, ((![v1128] : Fin 1 → IVec S16 32) a x).toNat < S16.size a)
theorem k0_idx74_inb : ∀ (v1128 : IVec S16 32) (k0_hw74 : k0_chk74 v1128), ∀ a x, ((![v1128] : Fin 1 → IVec S16 32) a x).toNat < S16.size a := fun v1128 k0_hw74 => k0_hw74
def k0_off10 (k0_t1 : Fin k0_t1_loop.trips) : Fin 1 → Nat :=
  let c0_i32_6 : BitVec 32 := 0#32
  let c1_i32 : BitVec 32 := 1#32
  let arg15 : BitVec 32 := Scf.iv c0_i32_6 c1_i32 k0_t1
  let c16_i32_359 : BitVec 32 := 16#32
  let v1131 : BitVec 32 := Scalar.muli arg15 c16_i32_359
  let c8_i32_360 : BitVec 32 := 8#32
  let v1132 : BitVec 32 := Scalar.muli v1131 c8_i32_360
  let c112_i32 : BitVec 32 := 112#32
  let v1133 : BitVec 32 := Scalar.addi v1132 c112_i32
  let v1134 : Index := Scalar.indexCast v1133
  ![v1134.toNat]
def k0_off11 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_9 : BitVec 32 := 32#32
  let v275 : BitVec 32 := Scalar.muli v1 c32_i32_9
  ![v275.toNat]
def k0_off12 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_10 : BitVec 32 := 32#32
  let v276 : BitVec 32 := Scalar.muli v1 c32_i32_10
  let c8_i32_11 : BitVec 32 := 8#32
  let v277 : BitVec 32 := Scalar.muli v276 c8_i32_11
  ![v277.toNat]
abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x64x64 : Shape := ⟨3, ![16384, 64, 64]⟩
abbrev S8 : Shape := ⟨1, ![8]⟩
abbrev S64 : Shape := ⟨1, ![64]⟩
abbrev S16384x1x1 : Shape := ⟨3, ![16384, 1, 1]⟩
abbrev S16384 : Shape := ⟨1, ![16384]⟩
abbrev S_ : Shape := ⟨0, ![]⟩
abbrev S64x1 : Shape := ⟨2, ![64, 1]⟩
abbrev S64x2 : Shape := ⟨2, ![64, 2]⟩
abbrev S16384x64 : Shape := ⟨2, ![16384, 64]⟩
abbrev S1x64 : Shape := ⟨2, ![1, 64]⟩
abbrev S16384x8 : Shape := ⟨2, ![16384, 8]⟩
abbrev S16384x1 : Shape := ⟨2, ![16384, 1]⟩
abbrev S1x8 : Shape := ⟨2, ![1, 8]⟩

abbrev nBuf : Space → Nat
  | .hbm => 59
  | .vmem => 0
  | .smem => 0
  | _ => 0

abbrev bufTy : (tb : Table) → Fin (tcTables nBuf tb) → BufTy
  | .hbm, ⟨0, _⟩ => ⟨S16384x64x64, .f32⟩
  | .hbm, ⟨1, _⟩ => ⟨S8, .f32⟩
  | .hbm, ⟨2, _⟩ => ⟨S64, .i1⟩
  | .hbm, ⟨3, _⟩ => ⟨S16384x1x1, .f32⟩
  | .hbm, ⟨4, _⟩ => ⟨S16384, .f32⟩
  | .hbm, ⟨5, _⟩ => ⟨S16384x1x1, .f32⟩
  | .hbm, ⟨6, _⟩ => ⟨S16384, .f32⟩
  | .hbm, ⟨7, _⟩ => ⟨S16384, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .i1⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S64, .i32⟩
  | .hbm, ⟨28, _⟩ => ⟨S64x1, .i32⟩
  | .hbm, ⟨29, _⟩ => ⟨S64x1, .i32⟩
  | .hbm, ⟨30, _⟩ => ⟨S64x2, .i32⟩
  | .hbm, ⟨31, _⟩ => ⟨S16384x64, .f32⟩
  | .hbm, ⟨32, _⟩ => ⟨S_, .f32⟩
  | .hbm, ⟨33, _⟩ => ⟨S16384x64, .f32⟩
  | .hbm, ⟨34, _⟩ => ⟨S16384x64, .i1⟩
  | .hbm, ⟨35, _⟩ => ⟨S1x64, .i1⟩
  | .hbm, ⟨36, _⟩ => ⟨S16384x64, .i1⟩
  | .hbm, ⟨37, _⟩ => ⟨S16384x64, .i1⟩
  | .hbm, ⟨38, _⟩ => ⟨S_, .i1⟩
  | .hbm, ⟨39, _⟩ => ⟨S16384, .i1⟩
  | .hbm, ⟨40, _⟩ => ⟨S16384, .i1⟩
  | .hbm, ⟨41, _⟩ => ⟨S_, .f32⟩
  | .hbm, ⟨42, _⟩ => ⟨S16384x8, .f32⟩
  | .hbm, ⟨43, _⟩ => ⟨S16384x1, .i1⟩
  | .hbm, ⟨44, _⟩ => ⟨S1x8, .f32⟩
  | .hbm, ⟨45, _⟩ => ⟨S_, .f32⟩
  | .hbm, ⟨46, _⟩ => ⟨S_, .f32⟩
  | .hbm, ⟨47, _⟩ => ⟨S16384x8, .i1⟩
  | .hbm, ⟨48, _⟩ => ⟨S16384x8, .f32⟩
  | .hbm, ⟨49, _⟩ => ⟨S16384x8, .f32⟩
  | .hbm, ⟨50, _⟩ => ⟨S16384x8, .f32⟩
  | .hbm, ⟨51, _⟩ => ⟨S16384x8, .f32⟩
  | .hbm, ⟨52, _⟩ => ⟨S16384x1, .i1⟩
  | .hbm, ⟨53, _⟩ => ⟨S_, .f32⟩
  | .hbm, ⟨54, _⟩ => ⟨S16384x8, .f32⟩
  | .hbm, ⟨55, _⟩ => ⟨S16384x8, .f32⟩
  | .hbm, ⟨56, _⟩ => ⟨S16384x8, .f32⟩
  | .hbm, ⟨57, _⟩ => ⟨S16384x8, .i1⟩
  | .hbm, ⟨58, _⟩ => ⟨S16384x8, .f32⟩
  | _, _ => ⟨S16384x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_c : Ref sig .tc := ⟨.hbm, 14, rfl⟩
abbrev main_call0_v2 : Ref sig .tc := ⟨.hbm, 15, rfl⟩
abbrev main_call0_v3 : Ref sig .tc := ⟨.hbm, 16, rfl⟩
abbrev main_call0_c_0 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_c_1 : Ref sig .tc := ⟨.hbm, 21, rfl⟩
abbrev main_call0_v7 : Ref sig .tc := ⟨.hbm, 22, rfl⟩
abbrev main_call0_v8 : Ref sig .tc := ⟨.hbm, 23, rfl⟩
abbrev main_call0_c_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v8 : Ref sig .tc := ⟨.hbm, 31, rfl⟩
abbrev main_cst_0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_2 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_3 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_call2_v0 : Ref sig .tc := ⟨.hbm, 57, rfl⟩
abbrev main_v25 : Ref sig .tc := ⟨.hbm, 58, rfl⟩

abbrev nD : Nat := 1
abbrev τ : Topo := Topo.v7x

variable {F : FTy → Type} [FloatOps F]
-- ==== Proof.Steps.lean ====
/-
  The SparseCore kernel of `KernelIdeal` written as three short recursions. The printed program unrolls its loops over
  the 64 mask entries, the 64 diagonal entries and the 8 pairs of rows; here each of them is one structural recursion,
  and the printed text is shown to be the same program.
-/
module

public import proofs.«01_k».proof.Defs
public import Idealize.ShloMosaic.Lib.SparseCore.Quiescent
public import Idealize.ShloMosaic.Lib.SparseCore.Ops
public import Idealize.ShloMosaic.Lib.Transfers
public import Idealize.ShloMosaic.Lib.StableHlo.Run
public import Idealize.ShloMosaic.Lib.Tactic
public import proofs.«01_k».proof.Proof.Gen.KernelIdeal
public import proofs.«01_k».proof.Proof.Gen.KernelIdeal.Skeleton

@[expose] public section

noncomputable section

namespace Cert.Proof.Sc

open Cert.KernelIdeal Cert.KernelIdeal.Gen
open Idealize.ShloMosaic Idealize.SL.Sem

variable {F : FTy → Type} [FloatOps F]

/-! ## The memrefs of a tile -/

/-- The diagonal rows of `x` as a 262144 × 16 table. -/
abbrev xV : Memref sig .scVector .hbm S262144x16 .f32 := Memref.whole main_v15_scv
/-- The action row, twice over. -/
abbrev aV : Memref sig .scVector .hbm S16 .f32 := Memref.whole main_v0_scv
/-- The mask as words. -/
abbrev mV : Memref sig .scVector .hbm S64 .i32 := Memref.whole main_v1_scv
/-- The two results' tails. -/
abbrev apV : Memref sig .scVector .hbm S8192 .f32 := Memref.whole main_v16_0_scv
abbrev pvV : Memref sig .scVector .hbm S1024 .f32 := Memref.whole main_v16_1_scv
/-- The scratch buffers: sixteen rows of `x`, the mask, the mask spread over lanes, the action row, the lanes'
    verdicts, and the two results' pieces. -/
abbrev gB : Memref sig .scVector .vmem S4096x16 .f32 := Memref.whole cc0_scratch0
abbrev mB : Memref sig .scVector .vmem S64 .i32 := Memref.whole cc0_scratch1
abbrev eB : Memref sig .scVector .vmem S1024 .i32 := Memref.whole cc0_scratch2
abbrev cB : Memref sig .scVector .vmem S16 .f32 := Memref.whole cc0_scratch3
abbrev sB : Memref sig .scVector .vmem S16 .f32 := Memref.whole cc0_scratch4
abbrev apB : Memref sig .scVector .vmem S256 .f32 := Memref.whole cc0_scratch5
abbrev pvB : Memref sig .scVector .vmem S32 .f32 := Memref.whole cc0_scratch6

/-- The monad a tile's program runs in. -/
abbrev TileProg (L : grid0.Coords) (α : Type) : Type 1 :=
  Prog (TpuEff nD τ sig (Elt F) Λ₀ (.scVector ((L 0).castLE hcore0) ((L 1).castLE hsub0))) α

/-! ## The recursions -/

theorem diag_inb (n : ℕ) : ∀ a, (![16 * (63 - n)] : Fin 1 → Nat) a + S16.size a ≤ S1024.size a := by
  intro a; fin_cases a; show 16 * (63 - n) + 16 ≤ 1024; omega

theorem fill_inb (g j : ℕ) : ∀ a, (![256 * (3 - g) + 16 * (15 - j)] : Fin 1 → Nat) a + S16.size a ≤ S1024.size a := by
  intro a; fin_cases a; show 256 * (3 - g) + 16 * (15 - j) + 16 ≤ 1024; omega

theorem group_inb (g : ℕ) : ∀ a, (![16 * (3 - g)] : Fin 1 → Nat) a + S16.size a ≤ S64.size a := by
  intro a; fin_cases a; show 16 * (3 - g) + 16 ≤ 64; omega

theorem lane_slices (j : ℕ) : S16.Slices ![15 - j] S1 := by
  refine ⟨rfl, fun a => ?_⟩
  fin_cases a; show (15 - j) + 1 ≤ 16; omega

/-- Where pair `7 - n` of a trip's sixteen rows is stored. -/
def pairOff (t : Fin k0_t1_loop.trips) (n : ℕ) : Fin 1 → Nat :=
  ![(Scalar.indexCast (Scalar.addi (Scalar.muli (Scalar.muli (Scf.iv 0#32 1#32 t) 16#32) 8#32) (BitVec.ofNat 32 (16 * (7 - n)))) : Index).toNat]

theorem pairOff_eq (t : Fin k0_t1_loop.trips) (n : ℕ) : pairOff t n = ![128 * t.val + 16 * (7 - n)] := by
  have key : ∀ (t : Fin 2) (p : Fin 8), (![(Scalar.indexCast (Scalar.addi (Scalar.muli (Scalar.muli (Scf.iv 0#32 1#32 t) 16#32) 8#32) (BitVec.ofNat 32 (16 * p.val))) : Index).toNat] : Fin 1 → ℕ)
      = ![128 * t.val + 16 * p.val] := by decide
  exact key t ⟨7 - n, by omega⟩

theorem pair_inb (t : Fin k0_t1_loop.trips) (n : ℕ) : ∀ a, pairOff t n a + S16.size a ≤ S256.size a := by
  intro a; rw [pairOff_eq]
  have ht : t.val < 2 := t.isLt
  fin_cases a; show 128 * t.val + 16 * (7 - n) + 16 ≤ 256; omega

/-- One lane of the mask, spread over sixteen lanes. -/
def spread (v : Vec F S16 .i32) (n : ℕ) : Vec F S16 .i32 :=
  broadcast S16 (extractAt ![0] (extractStridedSlice S1 ![15 - n] v (lane_slices n)) inpos_S1_p0)

/-- The last `n` of sixteen mask entries spread into the scratch, then `k`. -/
def fillSteps (L : grid0.Coords) {α : Type} (g : ℕ) (v : Vec F S16 .i32) : ℕ → TileProg (F := F) L α → TileProg (F := F) L α
  | 0, k => k
  | n + 1, k => do
    let _ : Vec F S16 .i32 ← Prog.lift (.load eB (Rect.unit (s := S1024) ![256 * (3 - g) + 16 * (15 - n)] S16.size (fill_inb g n)).toLoadRect (View.loadsAt_vmem h_S16))
    Prog.lift (.store eB (Rect.unit (s := S1024) ![256 * (3 - g) + 16 * (15 - n)] S16.size (fill_inb g n)) (spread v n) Finset.univ (View.stores_vmem_bits_univ h_S16 rfl) (.inl rfl))
    fillSteps L g v n k

/-- The last `g` groups of sixteen mask entries, then `k`. -/
def groupSteps (L : grid0.Coords) {α : Type} : ℕ → TileProg (F := F) L α → TileProg (F := F) L α
  | 0, k => k
  | g + 1, k => do
    let v : Vec F S16 .i32 ← Prog.lift (.load mB (Rect.unit (s := S64) ![16 * (3 - g)] S16.size (group_inb g)).toLoadRect (View.loadsAt_vmem h_S16))
    fillSteps L g v 16 (groupSteps L g k)

/-- What one diagonal entry adds to the lanes' verdicts. -/
def diagStep (acc : IVec S16 1) (d : Vec F S16 .f32) (w : Vec F S16 .i32) : IVec S16 1 :=
  andi acc (xori (xori (cmpf .ogt d (broadcast S16 (Scalar.ofBits .f32 0x3F4CCCCD#32))) (cmpi .sgt w (broadcast S16 0#32))) (constantI S16 1 1#1))

/-- The table's rows and columns the lanes read for diagonal entry `63 - n`. -/
def diagRows (v5 : IVec S16 32) (n : ℕ) : IVec S16 32 := addi v5 (broadcast S16 (BitVec.ofNat 32 (65 * (63 - n) / 16)))
def diagCols (n : ℕ) : IVec S16 32 := broadcast S16 (BitVec.ofNat 32 ((63 - n) % 16))

/-- The last `n` diagonal entries folded into the verdicts, then `k` of them. -/
def diagSteps (L : grid0.Coords) {α : Type} (v5 : IVec S16 32) : ℕ → IVec S16 1 → (IVec S16 1 → TileProg (F := F) L α) → TileProg (F := F) L α
  | 0, acc, k => k acc
  | n + 1, acc, k => do
    have hw : k0_chk3 (diagRows v5 n) (diagCols n) := (← Prog.lift (TpuEff.assume (k0_chk3 (diagRows v5 n) (diagCols n)) (k0_chk3.dec _ _))).down
    let d : Vec F S16 .f32 ← SparseCore.vectorLoadIdx gB ![diagRows v5 n, diagCols n] (k0_idx3_inb _ _ hw) (View.loads_vmem h_S4096x16)
    let w : Vec F S16 .i32 ← Prog.lift (.load eB (Rect.unit (s := S1024) ![16 * (63 - n)] S16.size (diag_inb n)).toLoadRect (View.loadsAt_vmem h_S16))
    diagSteps L v5 n (diagStep acc d w) k

/-- The lanes pair `7 - n` reads its verdicts from. -/
def pairIdx (v272 : IVec S16 32) (n : ℕ) : IVec S16 32 := addi v272 (broadcast S16 (BitVec.ofNat 32 (2 * (7 - n))))

/-- The last `n` pairs of rows stored. -/
def pairSteps (L : grid0.Coords) (v269 : FVec F S16 .f32) (v272 : IVec S16 32) (t : Fin k0_t1_loop.trips) : ℕ → TileProg (F := F) L Unit
  | 0 => pure ⟨⟩
  | n + 1 => do
    have hw : k0_chk67 (pairIdx v272 n) := (← Prog.lift (TpuEff.assume (k0_chk67 (pairIdx v272 n)) (k0_chk67.dec _))).down
    let s : Vec F S16 .f32 ← SparseCore.vectorLoadIdx sB ![pairIdx v272 n] (k0_idx67_inb _ hw) (View.loads_vmem h_S16)
    let _ : Vec F S16 .f32 ← Prog.lift (.load apB (Rect.unit (s := S256) (pairOff t n) S16.size (pair_inb t n)).toLoadRect (View.loadsAt_vmem h_S16))
    Prog.lift (.store apB (Rect.unit (s := S256) (pairOff t n) S16.size (pair_inb t n)) (mulf s v269) Finset.univ (View.stores_vmem_bits_univ h_S16 rfl) (.inl rfl))
    pairSteps L v269 v272 t n

/-- The lanes' verdicts before any diagonal entry: the first two entries of column 0 lie within a tenth. -/
def acc₀ (p : FVec F S16 .f32) : IVec S16 1 := cmpf .olt p (broadcast S16 (Scalar.ofBits .f32 0x3DCCCCCD#32))

/-- A verdict as a number. -/
def verdict (acc : IVec S16 1) : FVec F S16 .f32 :=
  select acc (broadcast S16 (Scalar.ofBits .f32 0x3F800000#32)) (broadcast S16 (Scalar.ofBits .f32 0x00000000#32))

/-- One trip: sixteen rows fetched, their values and verdicts computed and stored. -/
def trip (L : grid0.Coords) (v5 : IVec S16 32) (v269 : FVec F S16 .f32) (v272 v273 : IVec S16 32) (hw1 : k0_chk1 v5 v273) (t : Fin k0_t1_loop.trips) :
    TileProg (F := F) L Unit := do
  Prog.lift (.enqueueDma (xV.slice (Rect.unit (s := S262144x16) (k0_off1 L t) S4096x16.size (k0_off1_inb L t)) (fun _ => rfl)) (.here gB) (.dma cc0_scoped2.sem) (View.wordExact_bits rfl) (Memref.isWhole_whole _).wordExact ⟨Or.inl rfl, trivial⟩)
  Prog.lift (.waitDma2 cc0_scoped2.sem (xV.slice (Rect.unit (s := S262144x16) (k0_off1 L t) S4096x16.size (k0_off1_inb L t)) (fun _ => rfl)) gB (View.wordExact_bits rfl) (Memref.isWhole_whole _).wordExact)
  let a : Vec F S16 .f32 ← SparseCore.vectorLoadIdx gB ![v5, v273] (k0_idx1_inb v5 v273 hw1) (View.loads_vmem h_S4096x16)
  have hw2 : k0_chk2 v273 (addi v5 (broadcast S16 4#32)) := (← Prog.lift (TpuEff.assume (k0_chk2 v273 (addi v5 (broadcast S16 4#32))) (k0_chk2.dec _ _))).down
  let b : Vec F S16 .f32 ← SparseCore.vectorLoadIdx gB ![addi v5 (broadcast S16 4#32), v273] (k0_idx2_inb v273 _ hw2) (View.loads_vmem h_S4096x16)
  diagSteps L v5 64 (acc₀ (absf (subf a b))) fun acc => do
    let _ : Vec F S16 .f32 ← Prog.lift (.load pvB (Rect.unit (s := S32) (k0_off2 t) S16.size (k0_off2_inb t)).toLoadRect (View.loadsAt_vmem h_S16))
    Prog.lift (.store pvB (Rect.unit (s := S32) (k0_off2 t) S16.size (k0_off2_inb t)) (absf (subf a b)) Finset.univ (View.stores_vmem_bits_univ h_S16 rfl) (.inl rfl))
    let _ : Vec F S16 .f32 ← Prog.lift (.load sB (Rect.unit (s := S16) ![0] S16.size inb_S16_S16_0).toLoadRect (View.loadsAt_vmem h_S16))
    Prog.lift (.store sB (Rect.unit (s := S16) ![0] S16.size inb_S16_S16_0) (verdict acc) Finset.univ (View.stores_vmem_bits_univ h_S16 rfl) (.inl rfl))
    pairSteps L v269 v272 t 8

set_option maxRecDepth 65536 in
/-- The printed trip is `trip`. -/
theorem t1_body_eq (L : grid0.Coords) (v2 : BitVec 32) (v5 : IVec S16 32) (v269 : FVec F S16 .f32) (v272 v273 : IVec S16 32) (hw1 : k0_chk1 v5 v273) (t : Fin k0_t1_loop.trips) :
    k0_t1_body (F := F) L xV (Memref.isWhole_whole _) aV (Memref.isWhole_whole _) mV (Memref.isWhole_whole _) apV (Memref.isWhole_whole _) pvV (Memref.isWhole_whole _)
      gB (Memref.isWhole_whole _) mB (Memref.isWhole_whole _) eB (Memref.isWhole_whole _) cB (Memref.isWhole_whole _) sB (Memref.isWhole_whole _) apB (Memref.isWhole_whole _) pvB (Memref.isWhole_whole _)
      cc0_scratch7 cc0_scoped0 cc0_scoped1 cc0_scoped2 cc0_scoped3 cc0_scoped4 v2 v5 v269 v272 v273 hw1 t ()
      = trip L v5 v269 v272 v273 hw1 t := rfl

/-- A tile's whole task: the mask and the action row fetched, the mask spread, two trips, the results written out. -/
def task (L : grid0.Coords) : TileProg (F := F) L PUnit := do
  Prog.lift (.enqueueDma mV (.here mB) (.dma cc0_scoped0.sem) (Memref.isWhole_whole _).wordExact (Memref.isWhole_whole _).wordExact ⟨Or.inl rfl, trivial⟩)
  Prog.lift (.waitDma2 cc0_scoped0.sem mV mB (Memref.isWhole_whole _).wordExact (Memref.isWhole_whole _).wordExact)
  Prog.lift (.enqueueDma aV (.here cB) (.dma cc0_scoped1.sem) (Memref.isWhole_whole _).wordExact (Memref.isWhole_whole _).wordExact ⟨Or.inl rfl, trivial⟩)
  Prog.lift (.waitDma2 cc0_scoped1.sem aV cB (Memref.isWhole_whole _).wordExact (Memref.isWhole_whole _).wordExact)
  groupSteps L 4 do
    let v : Vec F S16 .f32 ← Prog.lift (.load cB (Rect.unit (s := S16) ![0] S16.size inb_S16_S16_0).toLoadRect (View.loadsAt_vmem h_S16))
    have hw1 : k0_chk1 k0_pay117 (broadcast S16 0#32) := (← Prog.lift (TpuEff.assume (k0_chk1 k0_pay117 (broadcast S16 0#32)) (k0_chk1.dec _ _))).down
    Scf.Loop.for k0_t1_loop k0_t1_ok ⟨⟩ fun t _ => trip L k0_pay117 (k0_pay184 v) (k0_pay185 (iota .scVector S16 32 [0] iota_S16_d0_w32_scVector)) (broadcast S16 0#32) hw1 t
    Prog.lift (.enqueueDma pvB (.here (pvV.slice (Rect.unit (s := S1024) (k0_off11 L) S32.size (k0_off11_inb L)) (fun _ => rfl))) (.dma cc0_scoped3.sem) (Memref.isWhole_whole _).wordExact (View.wordExact_bits rfl) ⟨Or.inl rfl, trivial⟩)
    Prog.lift (.waitDma2 cc0_scoped3.sem pvB (pvV.slice (Rect.unit (s := S1024) (k0_off11 L) S32.size (k0_off11_inb L)) (fun _ => rfl)) (Memref.isWhole_whole _).wordExact (View.wordExact_bits rfl))
    Prog.lift (.enqueueDma apB (.here (apV.slice (Rect.unit (s := S8192) (k0_off12 L) S256.size (k0_off12_inb L)) (fun _ => rfl))) (.dma cc0_scoped4.sem) (Memref.isWhole_whole _).wordExact (View.wordExact_bits rfl) ⟨Or.inl rfl, trivial⟩)
    Prog.lift (.waitDma2 cc0_scoped4.sem apB (apV.slice (Rect.unit (s := S8192) (k0_off12 L) S256.size (k0_off12_inb L)) (fun _ => rfl)) (Memref.isWhole_whole _).wordExact (View.wordExact_bits rfl))
    pure ⟨⟩

set_option maxRecDepth 65536 in
/-- The printed task is `task`. -/
theorem body_eq (L : grid0.Coords) :
    cc0__sc_body (F := F) L xV (Memref.isWhole_whole _) aV (Memref.isWhole_whole _) mV (Memref.isWhole_whole _) apV (Memref.isWhole_whole _) pvV (Memref.isWhole_whole _)
      gB (Memref.isWhole_whole _) mB (Memref.isWhole_whole _) eB (Memref.isWhole_whole _) cB (Memref.isWhole_whole _) sB (Memref.isWhole_whole _) apB (Memref.isWhole_whole _) pvB (Memref.isWhole_whole _)
      cc0_scratch7 cc0_scoped0 cc0_scoped1 cc0_scoped2 cc0_scoped3 cc0_scoped4
      = task L := by
  rw [cc0__sc_body_eq_skeleton]
  rfl

end Cert.Proof.Sc

end
-- ==== Proof.Values.lean ====
/-
  What the SparseCore part computes, as functions of the table it reads, and the facts about lanes, offsets and
  in-range indices that its proof reads.
-/
module

public import proofs.«01_k».proof.Proof.Steps

@[expose] public section

noncomputable section

namespace Cert.Proof.Sc

open Cert.KernelIdeal Cert.KernelIdeal.Gen
open Idealize.ShloMosaic Idealize.SL.Sem

variable {F : FTy → Type} [FloatOps F]

/-! ## The values -/

/-- Row `r`, column `c` of the table. -/
def tab (r c : ℕ) : S262144x16.Idx :=
  fun a => ⟨(![r, c] : Fin 2 → ℕ) a % S262144x16.size a, Nat.mod_lt _ (by fin_cases a <;> decide)⟩

/-- Entry `i` of the mask, lane `l` of the action row. -/
def at64 (i : ℕ) : S64.Idx := fun a => ⟨i % S64.size a, Nat.mod_lt _ (by fin_cases a; decide)⟩
def at16 (l : ℕ) : S16.Idx := fun a => ⟨l % S16.size a, Nat.mod_lt _ (by fin_cases a; decide)⟩

/-- Row `R`'s distance between the first two entries of column 0. -/
def gapAt (X : Vec F S262144x16 .f32) (R : ℕ) : F .f32 := FloatOps.absf (FloatOps.subf (X (tab (256 * R) 0)) (X (tab (256 * R + 4) 0)))

/-- Row `R`'s verdict after its first `n` diagonal entries. -/
def okAt (X : Vec F S262144x16 .f32) (Mk : Vec F S64 .i32) (R : ℕ) : ℕ → BitVec 1
  | 0 => FloatOps.cmpf .olt (gapAt X R) (Scalar.ofBits .f32 0x3DCCCCCD#32)
  | i + 1 => IntOp.andi (okAt X Mk R i) (IntOp.xori (IntOp.xori
      (FloatOps.cmpf .ogt (X (tab (256 * R + 65 * i / 16) (i % 16))) (Scalar.ofBits .f32 0x3F4CCCCD#32))
      (IntOp.cmpi .sgt (Mk (at64 i)) 0#32)) 1#1)

/-- Row `R`'s verdict as a number, and lane `l` of the scaled action row. -/
def verdAt (X : Vec F S262144x16 .f32) (Mk : Vec F S64 .i32) (R : ℕ) : F .f32 :=
  Scalar.select (okAt X Mk R 64) (Scalar.ofBits .f32 0x3F800000#32) (Scalar.ofBits .f32 0x00000000#32)
def scaled (A : Vec F S16 .f32) (l : ℕ) : F .f32 := FloatOps.divf (A (at16 l)) (FloatOps.addf (A (at16 l)) (Scalar.ofBits .f32 0x1E3CE508#32))

/-- The two results' tails. -/
def pvOut (X : Vec F S262144x16 .f32) : Vec F S1024 .f32 := fun x => gapAt X (x 0).val
def apOut (X : Vec F S262144x16 .f32) (A : Vec F S16 .f32) (Mk : Vec F S64 .i32) : Vec F S8192 .f32 :=
  fun x => FloatOps.mulf (verdAt X Mk ((x 0).val / 8)) (scaled A (x 0).val)

/-! ## Lanes and offsets -/

/-- The number of a tile: its first of 32 rows is `32 * wid`. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- The two coordinates of a tile, made into one. -/
theorem coords_eta (L : grid0.Coords) : ∃ (c : Fin (grid0.bound 0)) (s : Fin (grid0.bound 1)), L = (fun | 0 => c | 1 => s | ⟨_ + 2, h⟩ => absurd h (Nat.not_lt.2 (Nat.le_add_left _ _))) :=
  ⟨L 0, L 1, funext fun a => by fin_cases a <;> rfl⟩

theorem off1_eq (L : grid0.Coords) (t : Fin k0_t1_loop.trips) : k0_off1 L t = ![256 * (32 * wid L + 16 * t.val), 0] := by
  obtain ⟨c, s, rfl⟩ := coords_eta L
  revert t c s; decide

theorem off2_eq (t : Fin k0_t1_loop.trips) : k0_off2 t = ![16 * t.val] := by revert t; decide

theorem off11_eq (L : grid0.Coords) : k0_off11 L = ![32 * wid L] := by
  obtain ⟨c, s, rfl⟩ := coords_eta L
  revert c s; decide

theorem off12_eq (L : grid0.Coords) : k0_off12 L = ![256 * wid L] := by
  obtain ⟨c, s, rfl⟩ := coords_eta L
  revert c s; decide

/-- Lane `l` starts at row `256 * l` of the sixteen fetched rows. -/
theorem lane_base (x : S16.Idx) : (k0_pay117 x).toNat = 256 * (x 0).val := by
  have hx : (x 0).val < 16 := (x 0).isLt
  show (BitVec.ofNat 32 (0 * 16 + (x 0).val) * 256#32).toNat = _
  rw [BitVec.toNat_mul, BitVec.toNat_ofNat, BitVec.toNat_ofNat]; omega

theorem lane_add (x : S16.Idx) (k : ℕ) (hk : k < 4096) : (addi k0_pay117 (broadcast S16 (BitVec.ofNat 32 k)) x).toNat = 256 * (x 0).val + k := by
  have hx : (x 0).val < 16 := (x 0).isLt
  show (k0_pay117 x + BitVec.ofNat 32 k).toNat = _
  rw [BitVec.toNat_add, lane_base, BitVec.toNat_ofNat]; omega

theorem diagRows_toNat (x : S16.Idx) (n : ℕ) : (diagRows k0_pay117 n x).toNat = 256 * (x 0).val + 65 * (63 - n) / 16 :=
  lane_add x _ (by omega)

theorem diagCols_toNat (x : S16.Idx) (n : ℕ) : (diagCols n x).toNat = (63 - n) % 16 := by
  show (BitVec.ofNat 32 ((63 - n) % 16)).toNat = _
  rw [BitVec.toNat_ofNat]; omega

/-- Pairs of index vectors whose words lie inside the sixteen rows. -/
theorem in_table (r c : IVec S16 32) (hr : ∀ x, (r x).toNat < 4096) (hc : ∀ x, (c x).toNat < 16) :
    ∀ a x, ((![r, c] : Fin 2 → IVec S16 32) a x).toNat < S4096x16.size a := by
  intro a x; fin_cases a
  · exact hr x
  · exact hc x

theorem chk1_holds : k0_chk1 k0_pay117 (broadcast S16 0#32) :=
  in_table _ _ (fun x => by rw [lane_base]; have hx : (x 0).val < 16 := (x 0).isLt; omega) (fun _ => (by decide : (0#32).toNat < 16))

theorem chk2_holds : k0_chk2 (broadcast S16 0#32) (addi k0_pay117 (broadcast S16 4#32)) :=
  in_table _ _ (fun x => by have hx : (x 0).val < 16 := (x 0).isLt; rw [lane_add x 4 (by decide)]; omega) (fun _ => (by decide : (0#32).toNat < 16))

theorem chk3_holds (n : ℕ) : k0_chk3 (diagRows k0_pay117 n) (diagCols n) :=
  in_table _ _ (fun x => by rw [diagRows_toNat]; have hx : (x 0).val < 16 := (x 0).isLt; omega) (fun x => by rw [diagCols_toNat]; omega)

/-- The lanes' halves: 0 below lane 8, 1 from there on. -/
abbrev halves : IVec S16 32 := k0_pay185 (iota .scVector S16 32 [0] iota_S16_d0_w32_scVector)

theorem halves_toNat (x : S16.Idx) : (halves x).toNat = (x 0).val / 8 := by
  have key : ∀ l : Fin 16, (BitVec.zeroExtend 32 (IntOp.cmpi .sge (BitVec.ofNat 32 (0 * 16 + l.val)) 8#32)).toNat = l.val / 8 := by decide
  exact key (x 0)

theorem pairIdx_toNat (x : S16.Idx) (n : ℕ) : (pairIdx halves n x).toNat = 2 * (7 - n) + (x 0).val / 8 := by
  have hx : (x 0).val < 16 := (x 0).isLt
  show (halves x + BitVec.ofNat 32 (2 * (7 - n))).toNat = _
  rw [BitVec.toNat_add, halves_toNat, BitVec.toNat_ofNat]; omega

theorem chk67_holds (n : ℕ) : k0_chk67 (pairIdx halves n) := by
  intro a x
  have hx : (x 0).val < 16 := (x 0).isLt
  fin_cases a
  show (pairIdx halves n x).toNat < 16
  rw [pairIdx_toNat]; omega

/-- What a spread entry holds on every lane. -/
theorem spread_apply (v : Vec F S16 .i32) (n : ℕ) (x : S16.Idx) : spread v n x = v (at16 (15 - n)) := by
  show v _ = v _
  congr 1; funext a; fin_cases a
  apply Fin.ext
  show 15 - n + 0 = (15 - n) % 16
  omega

end Cert.Proof.Sc

end
-- ==== Proof.Base.lean ====
/-
  The program as the SparseCore launch theorem sees it: its labels, its configuration, the resource algebra — the
  handshakes' rounds, the TensorCore pipeline's rounds, and the counters of the tiles' transfers — and a tile's thread.
-/
module

public import proofs.«01_k».proof.Proof.Values
public import Idealize.ShloMosaic.Lib.Pipeline.Regions
public import Idealize.ShloMosaic.Lib.Pipeline.Kit

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds, and the algebra of both beside the transfers' counters. -/
abbrev UH : Type := URounds (GSem nD τ sig) ℕ
abbrev UP : Type := URounds (GSem nD τ sig) Unit
abbrev UU : Type := UH × (UP × Counters)

/-- The machine's resources for this proof. -/
abbrev MM (F : FTy → Type) := MT nD τ sig (HIx 1) (Elt F) ℕ UU ℕ

abbrev EH : Emb UH (MM F) := embL
abbrev EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MM F)).LandsIn (upEmb : UEmb _ (MM F)) := by unfold EP; infer_instance

/-- The thread of tile `L` on device `d`. -/
abbrev tl (d : Dev nD) (L : grid0.Coords) : Thread nD τ := V d ((L 0).castLE hcore0) ((L 1).castLE hsub0)

end Cert.Proof.Sc

end
-- ==== Proof.Spread.lean ====
/-
  The runs of a tile's three recursions: the mask spread over lanes, the diagonal entries folded into the lanes'
  verdicts, and the pairs of rows stored.
-/
module

public import proofs.«01_k».proof.Proof.Base
public import Idealize.ShloMosaic.Lib.Writes

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)

local notation "𝕄" => MM F

/-- The mask spread over the scratch's first `b` places. -/
def Spread (Mk : Vec F S64 .i32) (b : ℕ) (e : Vec F S1024 .i32) : Prop := ∀ x : S1024.Idx, (x 0).val < b → e x = Mk (at64 ((x 0).val / 16))

/-- One more entry spread. -/
theorem Spread.step {Mk : Vec F S64 .i32} {j : ℕ} {e : Vec F S1024 .i32} (h : Spread Mk (16 * j) e) (off : Fin 1 → ℕ) (hoff : off 0 = 16 * j) (inb) (w : Vec F S16 .i32)
    (hw : ∀ x, w x = Mk (at64 j)) : Spread Mk (16 * j + 16) ((eB).view.writes (Elt F) e [⟨Rect.unit (s := S1024) off S16.size inb, w⟩]) := by
  intro x hx
  by_cases hlt : (x 0).val < 16 * j
  · refine Eq.trans (View.read_writes_cons_miss_of_axis (eB).view e ⟨Rect.unit (s := S1024) off S16.size inb, w⟩ [] x 0 (16 * j) 16 hoff rfl rfl (.inl hlt)) (h x hlt)
  · have hb : (x 0).val - 16 * j < 16 := by omega
    refine Eq.trans (View.read_writes_cons_hit_of_coords (eB).view e (Rect.unit (s := S1024) off S16.size inb) w [] (fun a => ⟨(x a).val - 16 * j, ?_⟩) x ?_) ?_
    · fin_cases a; exact hb
    · intro a; fin_cases a
      show (x 0).val = off 0 + 1 * ((x 0).val - 16 * j)
      rw [hoff]; omega
    · rw [hw, show (x 0).val / 16 = j by omega]

/-- The last `n` entries of group `3 - g` spread. -/
theorem wp_fill {α : Type} {Q : α → sProp 𝕄} (k : TileProg (F := F) L α) (Mk : Vec F S64 .i32) (g : ℕ) (hg : g ≤ 3) (v : Vec F S16 .i32)
    (hv : ∀ j < 16, v (at16 j) = Mk (at64 (16 * (3 - g) + j))) (n : ℕ) (hn : n ≤ 16) (e : Vec F S1024 .i32) (he : Spread Mk (256 * (3 - g) + 16 * (16 - n)) e) :
    iprop(((tl d L).loc cc0_scratch2 ↦{fullShare} e)
        ∗ (∀ e', ⌜Spread Mk (256 * (3 - g) + 256) e'⌝ -∗ ((tl d L).loc cc0_scratch2 ↦{fullShare} e') -∗ wp frame (wpE (defs₀ (F := F)) 𝒱₀ (tl d L) none) Set.univ k Q))
      ⊢ wp frame (wpE (defs₀ (F := F)) 𝒱₀ (tl d L) none) Set.univ (fillSteps L g v n k) Q := by
  induction n generalizing e with
  | zero =>
    iintro ⟨He, Hk⟩
    unfold fillSteps
    iapply Hk $$ [] [He]
    · ipureintro; exact he
    · iexact He
  | succ n ih =>
    simp only [fillSteps, Prog.lift, Prog.bind_op, Prog.bind_ret]
    iintro ⟨He, Hk⟩
    iapply (wp_load 𝒱₀ (tl d L) none Set.univ (m := eB) (Finset.subset_univ _)) $$ He
    iintro He
    iapply (wp_store_writes₀ 𝒱₀ (tl d L) none Set.univ (m := eB) (r := Rect.unit (s := S1024) ![256 * (3 - g) + 16 * (15 - n)] S16.size (fill_inb g n)) (w := spread v n) (S := Finset.univ) (Finset.subset_univ _)) $$ He
    iintro He
    iapply (ih (by omega) _ ?h)
    case h =>
      have hs := Spread.step (j := 16 * (3 - g) + (15 - n)) (e := e) (Mk := Mk) (by convert he using 2; omega)
        ![256 * (3 - g) + 16 * (15 - n)] (by show 256 * (3 - g) + 16 * (15 - n) = _; omega) (fill_inb g n) (spread v n) (fun x => by rw [spread_apply, hv _ (by omega)])
      rw [show 256 * (3 - g) + 16 * (16 - n) = 16 * (16 * (3 - g) + (15 - n)) + 16 by omega]
      exact hs
    isplitl [He]; · iexact He
    iexact Hk

/-- The last `g` groups spread, the mask held. -/
theorem wp_groups {α : Type} {Q : α → sProp 𝕄} (k : TileProg (F := F) L α) (Mk : Vec F S64 .i32) (g : ℕ) (hg : g ≤ 4)
    (e : Vec F S1024 .i32) (he : Spread Mk (256 * (4 - g)) e) :
    iprop(((tl d L).loc cc0_scratch1 ↦{fullShare} Mk) ∗ ((tl d L).loc cc0_scratch2 ↦{fullShare} e)
        ∗ (∀ e', ⌜Spread Mk 1024 e'⌝ -∗ ((tl d L).loc cc0_scratch1 ↦{fullShare} Mk) -∗ ((tl d L).loc cc0_scratch2 ↦{fullShare} e')
            -∗ wp frame (wpE (defs₀ (F := F)) 𝒱₀ (tl d L) none) Set.univ k Q))
      ⊢ wp frame (wpE (defs₀ (F := F)) 𝒱₀ (tl d L) none) Set.univ (groupSteps L g k) Q := by
  induction g generalizing e with
  | zero =>
    iintro ⟨Hm, He, Hk⟩
    unfold groupSteps
    iapply Hk $$ [] Hm He
    ipureintro; exact he
  | succ g ih =>
    simp only [groupSteps, Prog.lift, Prog.bind_op, Prog.bind_ret]
    iintro ⟨Hm, He, Hk⟩
    iapply (wp_load 𝒱₀ (tl d L) none Set.univ (m := mB) (r := (Rect.unit (s := S64) ![16 * (3 - g)] S16.size (group_inb g)).toLoadRect) (S := Finset.univ) (Finset.subset_univ _)) $$ Hm
    iintro Hm
    iapply (wp_fill d L (groupSteps L g k) Mk g (by omega) _ ?hv 16 le_rfl e ?he)
    case hv =>
      intro j hj
      refine congrArg Mk ?_
      funext a; fin_cases a; apply Fin.ext
      show 16 * (3 - g) + 1 * (j % 16) = (16 * (3 - g) + j) % 64
      omega
    case he =>
      rw [show 256 * (3 - g) + 16 * (16 - 16) = 256 * (4 - (g + 1)) by omega]
      exact he
    isplitl [He]; · iexact He
    iintro %e' %he' He
    iapply (ih (by omega) e' (by rw [show 256 * (4 - g) = 256 * (3 - g) + 256 by omega]; exact he'))
    isplitl [Hm]; · iexact Hm
    isplitl [He]; · iexact He
    iexact Hk

end Cert.Proof.Sc

end
-- ==== Proof.Rows.lean ====
/-
  The runs of a trip's two recursions: the diagonal entries folded into the lanes' verdicts, and the pairs of rows
  stored.
-/
module

public import proofs.«01_k».proof.Proof.Spread

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)

local notation "𝕄" => MM F

/-- The table's sixteen rows from `R` on, as they lie in the scratch. -/
def Rows (X : Vec F S262144x16 .f32) (R : ℕ) (G : Vec F S4096x16 .f32) : Prop :=
  ∀ y : S4096x16.Idx, G y = X (tab (256 * R + (y 0).val) (y 1).val)

/-- What the lanes gather. -/
theorem Rows.gather {X : Vec F S262144x16 .f32} {R : ℕ} {G : Vec F S4096x16 .f32} (h : Rows X R G) (r c : IVec S16 32)
    (hin : ∀ a x, ((![r, c] : Fin 2 → IVec S16 32) a x).toNat < S4096x16.size a) (x : S16.Idx) (i j : ℕ) (hr : (r x).toNat = 256 * (x 0).val + i) (hc : (c x).toNat = j) :
    loadIdx (((gB).access (.whole S4096x16)).read (Elt F) G) ![r, c] hin x = X (tab (256 * (R + (x 0).val) + i) j) := by
  refine Eq.trans (h _) ?_
  congr 2
  · show 256 * R + (0 + 1 * (r x).toNat) = _
    rw [hr]; omega
  · show 0 + 1 * (c x).toNat = _
    rw [hc]; omega

/-- The last `n` diagonal entries folded in, the rows and the spread mask held. -/
theorem wp_diag {α : Type} {Q : α → sProp 𝕄} (X : Vec F S262144x16 .f32) (Mk : Vec F S64 .i32) (R : ℕ) (G : Vec F S4096x16 .f32) (hG : Rows X R G)
    (W : Vec F S1024 .i32) (hW : Spread Mk 1024 W) (k : IVec S16 1 → TileProg (F := F) L α) (n : ℕ) (hn : n ≤ 64) (acc : IVec S16 1)
    (hacc : ∀ x : S16.Idx, acc x = okAt X Mk (R + (x 0).val) (64 - n)) :
    iprop(((tl d L).loc cc0_scratch0 ↦{fullShare} G) ∗ ((tl d L).loc cc0_scratch2 ↦{fullShare} W)
        ∗ (∀ acc', ⌜∀ x : S16.Idx, acc' x = okAt X Mk (R + (x 0).val) 64⌝ -∗ ((tl d L).loc cc0_scratch0 ↦{fullShare} G) -∗ ((tl d L).loc cc0_scratch2 ↦{fullShare} W)
            -∗ wp frame (wpE (defs₀ (F := F)) 𝒱₀ (tl d L) none) Set.univ (k acc') Q))
      ⊢ wp frame (wpE (defs₀ (F := F)) 𝒱₀ (tl d L) none) Set.univ (diagSteps L k0_pay117 n acc k) Q := by
  induction n generalizing acc with
  | zero =>
    iintro ⟨Hg, He, Hk⟩
    unfold diagSteps
    iapply Hk $$ [] Hg He
    ipureintro; exact hacc
  | succ n ih =>
    simp only [diagSteps, Prog.lift, Prog.bind_op, Prog.bind_ret]
    rw [wp_assume_of _ _ _ _ (chk3_holds n)]
    iintro ⟨Hg, He, Hk⟩
    iapply (SparseCore.wp_vectorLoadIdx 𝒱₀ (tl d L) none Set.univ (base := gB) (S := Finset.univ) (Finset.subset_univ _)) $$ Hg
    iintro Hg
    iapply (wp_load 𝒱₀ (tl d L) none Set.univ (m := eB) (r := (Rect.unit (s := S1024) ![16 * (63 - n)] S16.size (diag_inb n)).toLoadRect) (S := Finset.univ) (Finset.subset_univ _)) $$ He
    iintro He
    iapply (ih (by omega) _ ?h)
    case h =>
      intro x
      have hx : (x 0).val < 16 := (x 0).isLt
      rw [show 64 - n = (63 - n) + 1 by omega]
      have ha := hacc x
      rw [show 64 - (n + 1) = 63 - n by omega] at ha
      have hd := hG.gather (diagRows k0_pay117 n) (diagCols n) (k0_idx3_inb _ _ (chk3_holds n)) x _ _ (diagRows_toNat x n) (diagCols_toNat x n)
      have hw : (eB).view.readAt (Elt F) (Rect.unit (s := S1024) ![16 * (63 - n)] S16.size (diag_inb n)).toLoadRect W x = Mk (at64 (63 - n)) := by
        refine Eq.trans (hW _ ?_) ?_
        · show 16 * (63 - n) + 1 * (x 0).val < 1024; omega
        · congr 2
          show (16 * (63 - n) + 1 * (x 0).val) / 16 = 63 - n; omega
      unfold diagStep okAt
      refine Eq.trans (congrArg₂ IntOp.andi ha (congrArg (fun z => IntOp.xori z 1#1) (congrArg₂ IntOp.xori (congrArg (fun z => FloatOps.cmpf .ogt z (Scalar.ofBits .f32 0x3F4CCCCD#32)) hd)
        (congrArg (fun z => IntOp.cmpi .sgt z 0#32) hw)))) rfl
    isplitl [Hg]; · iexact Hg
    isplitl [He]; · iexact He
    iexact Hk

/-- A lane of the scaled action row, by its number modulo sixteen. -/
theorem scaled_congr (A : Vec F S16 .f32) {l l' : ℕ} (h : l % 16 = l' % 16) : scaled A l = scaled A l' := by
  have e : at16 l = at16 l' := by funext a; fin_cases a; exact Fin.ext h
  unfold scaled; rw [e]

/-- The scaled action row's copies filled in below `b`. -/
def Paired (X : Vec F S262144x16 .f32) (A : Vec F S16 .f32) (Mk : Vec F S64 .i32) (R : ℕ) (b : ℕ) (f : Vec F S256 .f32) : Prop :=
  ∀ x : S256.Idx, (x 0).val < b → f x = FloatOps.mulf (verdAt X Mk (R + (x 0).val / 8)) (scaled A (x 0).val)

theorem Paired.step {X : Vec F S262144x16 .f32} {A : Vec F S16 .f32} {Mk : Vec F S64 .i32} {R j : ℕ} {f : Vec F S256 .f32} (h : Paired X A Mk R (16 * j) f)
    (off : Fin 1 → ℕ) (hoff : off 0 = 16 * j) (inb) (w : Vec F S16 .f32)
    (hw : ∀ x : S16.Idx, w x = FloatOps.mulf (verdAt X Mk (R + 2 * j + (x 0).val / 8)) (scaled A (x 0).val)) :
    Paired X A Mk R (16 * j + 16) ((apB).view.writes (Elt F) f [⟨Rect.unit (s := S256) off S16.size inb, w⟩]) := by
  intro x hx
  by_cases hlt : (x 0).val < 16 * j
  · refine Eq.trans (View.read_writes_cons_miss_of_axis (apB).view f ⟨Rect.unit (s := S256) off S16.size inb, w⟩ [] x 0 (16 * j) 16 hoff rfl rfl (.inl hlt)) (h x hlt)
  · have hb : (x 0).val - 16 * j < 16 := by omega
    refine Eq.trans (View.read_writes_cons_hit_of_coords (apB).view f (Rect.unit (s := S256) off S16.size inb) w [] (fun a => ⟨(x a).val - 16 * j, ?_⟩) x ?_) ?_
    · fin_cases a; exact hb
    · intro a; fin_cases a
      show (x 0).val = off 0 + 1 * ((x 0).val - 16 * j)
      rw [hoff]; omega
    · refine (hw _).trans ?_
      show FloatOps.mulf (verdAt X Mk (R + 2 * j + ((x 0).val - 16 * j) / 8)) (scaled A ((x 0).val - 16 * j)) = _
      rw [show R + 2 * j + ((x 0).val - 16 * j) / 8 = R + (x 0).val / 8 by omega, scaled_congr A (show ((x 0).val - 16 * j) % 16 = (x 0).val % 16 by omega)]

/-- The last `n` pairs of a trip's rows stored, the verdicts held. -/
theorem wp_pairs {Q : Unit → sProp 𝕄} (X : Vec F S262144x16 .f32) (A : Vec F S16 .f32) (Mk : Vec F S64 .i32) (R : ℕ) (t : Fin k0_t1_loop.trips)
    (sv : Vec F S16 .f32) (hsv : ∀ x : S16.Idx, sv x = verdAt X Mk (R + 16 * t.val + (x 0).val))
    (v : FVec F S16 .f32) (hv : ∀ x : S16.Idx, v x = scaled A (x 0).val) (n : ℕ) (hn : n ≤ 8) (f : Vec F S256 .f32)
    (hf : Paired X A Mk R (128 * t.val + 16 * (8 - n)) f) :
    iprop(((tl d L).loc cc0_scratch4 ↦{fullShare} sv) ∗ ((tl d L).loc cc0_scratch5 ↦{fullShare} f)
        ∗ (∀ f', ⌜Paired X A Mk R (128 * t.val + 128) f'⌝ -∗ ((tl d L).loc cc0_scratch4 ↦{fullShare} sv) -∗ ((tl d L).loc cc0_scratch5 ↦{fullShare} f') -∗ Q ()))
      ⊢ wp frame (wpE (defs₀ (F := F)) 𝒱₀ (tl d L) none) Set.univ (pairSteps L v halves t n) Q := by
  induction n generalizing f with
  | zero =>
    unfold pairSteps
    show _ ⊢ wp frame _ _ (Prog.ret ()) Q
    rw [wp_ret]
    iintro ⟨Hs, Hf, Hk⟩
    imodintro
    iapply Hk $$ [] Hs Hf
    ipureintro; exact hf
  | succ n ih =>
    simp only [pairSteps, Prog.lift, Prog.bind_op, Prog.bind_ret]
    rw [wp_assume_of _ _ _ _ (chk67_holds n)]
    iintro ⟨Hs, Hf, Hk⟩
    iapply (SparseCore.wp_vectorLoadIdx 𝒱₀ (tl d L) none Set.univ (base := sB) (S := Finset.univ) (Finset.subset_univ _)) $$ Hs
    iintro Hs
    iapply (wp_load 𝒱₀ (tl d L) none Set.univ (m := apB) (r := (Rect.unit (s := S256) (pairOff t n) S16.size (pair_inb t n)).toLoadRect) (S := Finset.univ) (Finset.subset_univ _)) $$ Hf
    iintro Hf
    iapply (wp_store_writes₀ 𝒱₀ (tl d L) none Set.univ (m := apB) (r := Rect.unit (s := S256) (pairOff t n) S16.size (pair_inb t n))
      (w := mulf (loadIdx (((sB).access (.whole S16)).read (Elt F) sv) ![pairIdx halves n] (k0_idx67_inb _ (chk67_holds n))) v) (S := Finset.univ) (Finset.subset_univ _)) $$ Hf
    iintro Hf
    iapply (ih (by omega) _ ?h)
    case h =>
      have hs := Paired.step (X := X) (A := A) (Mk := Mk) (R := R) (j := 8 * t.val + (7 - n)) (f := f)
        (by rw [show 16 * (8 * t.val + (7 - n)) = 128 * t.val + 16 * (8 - (n + 1)) by omega]; exact hf)
        (pairOff t n) (by rw [pairOff_eq]; show 128 * t.val + 16 * (7 - n) = _; omega) (pair_inb t n)
        (mulf (loadIdx (((sB).access (.whole S16)).read (Elt F) sv) ![pairIdx halves n] (k0_idx67_inb _ (chk67_holds n))) v) (fun x => by
          show FloatOps.mulf (sv _) (v x) = _
          rw [hsv, hv]
          congr 2
          show R + 16 * t.val + (0 + 1 * (pairIdx halves n x).toNat) = _
          rw [pairIdx_toNat]; omega)
      rw [show 128 * t.val + 16 * (8 - n) = 16 * (8 * t.val + (7 - n)) + 16 by omega]
      exact hs
    isplitl [Hs]; · iexact Hs
    isplitl [Hf]; · iexact Hf
    iexact Hk

end Cert.Proof.Sc

end
-- ==== Proof.Copy.lean ====
/-
  A tile's copy and the wait for it, as one step.
-/
module

public import proofs.«01_k».proof.Proof.Base

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)

local notation "𝕄" => MM F

/-- A tile's copy within its device and the wait for it: the destination comes back holding what the source reads, the
    source and the semaphore's counter as they were, and one more wait recorded. -/
theorem wp_copy {sp sp' : Space} {s : Shape} {e : EltTy} {src : Memref sig .scVector sp s e} {dst : Memref sig .scVector sp' s e} {sem : DmaSem sig}
    {hsrc : src.view.WordExact} {hdst : dst.view.WordExact} {hsem : DmaTarget.Typed (nD := nD) (p := (tl d L).2) sp (.dma sem) (.here dst)}
    {hsrc' : src.view.WordExact} {hdst' : dst.view.WordExact} {α : Type} {Q : α → sProp 𝕄} {k : TileProg (F := F) L α}
    {q : PosShare TreeShare} {S : Finset (Idx (src.view.loc (tl d L)))} {fs : Buf (Elt F) (src.view.loc (tl d L))}
    {Sd : Finset (Idx (dst.view.loc (tl d L)))} {fd : Buf (Elt F) (dst.view.loc (tl d L))} {O : CellTallies nD τ sig (HIx 1)} {W : Waits sig (HIx 1)}
    (hS : src.view.set ⊆ S) (hSd : dst.view.set ⊆ Sd) (h0 : 0 < s.numel) :
    iprop(Transfers.MayWaits (tl d L) (none : HIx 1) O ∗ (src.view.loc (tl d L) ↦[S]{q} fs) ∗ (dst.view.loc (tl d L) ↦[Sd]{fullShare} fd)
        ∗ semVal (tl d L, SemLoc.dma sem) 0 ∗ owes (tl d L) O W
        ∗ (((src.view.loc (tl d L) ↦[S]{q} fs) ∗ (dst.view.loc (tl d L) ↦[Sd]{fullShare} dst.view.write (Elt F) fd (src.view.read (Elt F) fs) Finset.univ)
            ∗ semVal (tl d L, SemLoc.dma sem) 0 ∗ owes (tl d L) O (insert (SemLoc.dma sem, none) W))
          -∗ wp frame (wpE (defs₀ (F := F)) 𝒱₀ (tl d L) none) Set.univ k Q))
      ⊢ wp frame (wpE (defs₀ (F := F)) 𝒱₀ (tl d L) none) Set.univ
          (.op (.enqueueDma src (.here dst) (.dma sem) hsrc hdst hsem) fun _ => .op (.waitDma2 sem src dst hsrc' hdst') fun _ => k) Q := by
  iintro ⟨#Hmw, Hs, Hd, Hv, HO, Hk⟩
  ihave Hs' := (pointsTo_split_subset hS).1 $$ Hs
  icases Hs' with ⟨Hs, Hr⟩
  iapply (Transfers.wp_dmaLocal countersEmb 𝒱₀ (tl d L) none (none : HIx 1) _ rfl (View.amount_pos _ _ h0) hSd) $$ [Hs Hd Hv]
  · isplitl [Hs]; · iexact Hs
    isplitl [Hd]; · iexact Hd
    iexact Hv
  iintro Hf
  iapply (Transfers.wp_waitLocalO countersEmb 𝒱₀ (tl d L) none (none : HIx 1) rfl) $$ [Hf HO]
  · isplitl [Hf]; · iexact Hf
    isplitl [HO]; · iexact HO
    iapply (Transfers.MayWaits.elim (SemLoc.dma sem)); iexact Hmw
  iintro ⟨⟨Hd, Hs⟩, Hv, HO⟩
  iapply Hk
  isplitl [Hs Hr]
  · iapply (pointsTo_split_subset hS).2
    isplitl [Hs] <;> iassumption
  isplitl [Hd]; · iexact Hd
  isplitl [Hv]; · iexact Hv
  iexact HO

end Cert.Proof.Sc

end
-- ==== Proof.Trip.lean ====
/-
  One trip of a tile: sixteen rows fetched, their values and verdicts computed and stored.
-/
module

public import proofs.«01_k».proof.Proof.Rows
public import proofs.«01_k».proof.Proof.Copy

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)

local notation "𝕄" => MM F

/-- The rows' gaps filled in below `b`. -/
def Gapped (X : Vec F S262144x16 .f32) (R : ℕ) (b : ℕ) (f : Vec F S32 .f32) : Prop :=
  ∀ x : S32.Idx, (x 0).val < b → f x = gapAt X (R + (x 0).val)

theorem Gapped.step {X : Vec F S262144x16 .f32} {R j : ℕ} {f : Vec F S32 .f32} (h : Gapped X R (16 * j) f)
    (off : Fin 1 → ℕ) (hoff : off 0 = 16 * j) (inb) (w : Vec F S16 .f32) (hw : ∀ x : S16.Idx, w x = gapAt X (R + 16 * j + (x 0).val)) :
    Gapped X R (16 * j + 16) ((pvB).view.writes (Elt F) f [⟨Rect.unit (s := S32) off S16.size inb, w⟩]) := by
  intro x hx
  by_cases hlt : (x 0).val < 16 * j
  · refine Eq.trans (View.read_writes_cons_miss_of_axis (pvB).view f ⟨Rect.unit (s := S32) off S16.size inb, w⟩ [] x 0 (16 * j) 16 hoff rfl rfl (.inl hlt)) (h x hlt)
  · have hb : (x 0).val - 16 * j < 16 := by omega
    refine Eq.trans (View.read_writes_cons_hit_of_coords (pvB).view f (Rect.unit (s := S32) off S16.size inb) w [] (fun a => ⟨(x a).val - 16 * j, ?_⟩) x ?_) ?_
    · fin_cases a; exact hb
    · intro a; fin_cases a
      show (x 0).val = off 0 + 1 * ((x 0).val - 16 * j)
      rw [hoff]; omega
    · refine (hw _).trans ?_
      show gapAt X (R + 16 * j + ((x 0).val - 16 * j)) = _
      rw [show R + 16 * j + ((x 0).val - 16 * j) = R + (x 0).val by omega]

/-- What the loop holds before trip `t`: the table (a share), the fetched rows, the spread mask, the verdicts, the two
    results filled in as far as the earlier trips went, the transfer's counter at zero, and what the tile owes. -/
def inv (X : Vec F S262144x16 .f32) (A : Vec F S16 .f32) (Mk : Vec F S64 .i32) (q : PosShare TreeShare) (W : Vec F S1024 .i32)
    (O : CellTallies nD τ sig (HIx 1)) (W₀ : Waits sig (HIx 1)) (t : ℕ) (_ : PUnit) : sProp 𝕄 :=
  iprop(Transfers.MayWaits (tl d L) (none : HIx 1) O
    ∗ ((xV).view.loc (tl d L) ↦{q} X)
    ∗ (∃ G, (gB).view.loc (tl d L) ↦{fullShare} G)
    ∗ ((eB).view.loc (tl d L) ↦{fullShare} W)
    ∗ (∃ sv, (sB).view.loc (tl d L) ↦{fullShare} sv)
    ∗ (∃ f, ⌜Paired X A Mk (32 * wid L) (128 * t) f⌝ ∗ (apB).view.loc (tl d L) ↦{fullShare} f)
    ∗ (∃ f, ⌜Gapped X (32 * wid L) (16 * t) f⌝ ∗ (pvB).view.loc (tl d L) ↦{fullShare} f)
    ∗ semVal (tl d L, SemLoc.dma cc0_scoped2.sem) 0
    ∗ ∃ W', ⌜∀ p ∈ W', p ∈ W₀ ∨ p.2 = none⌝ ∗ owes (tl d L) O W')

/-- The rows a trip fetches. -/
theorem rows_fetched (X : Vec F S262144x16 .f32) (t : Fin k0_t1_loop.trips) :
    Rows X (32 * wid L + 16 * t.val) ((xV.slice (Rect.unit (s := S262144x16) (k0_off1 L t) S4096x16.size (k0_off1_inb L t)) (fun _ => rfl)).view.read (Elt F) X) := by
  intro y
  refine congrArg X ?_
  have hw := wid_lt L
  have ht : t.val < 2 := t.isLt
  have h0 : (y 0).val < 4096 := (y 0).isLt
  have h1 : (y 1).val < 16 := (y 1).isLt
  funext a; fin_cases a <;> apply Fin.ext
  · show k0_off1 L t 0 + 1 * (y 0).val = (256 * (32 * wid L + 16 * t.val) + (y 0).val) % 262144
    rw [off1_eq]
    show 256 * (32 * wid L + 16 * t.val) + 1 * (y 0).val = _
    omega
  · show k0_off1 L t 1 + 1 * (y 1).val = (y 1).val % 16
    rw [off1_eq]
    show 0 + 1 * (y 1).val = _
    omega

/-- One trip. -/
theorem wp_trip (X : Vec F S262144x16 .f32) (A : Vec F S16 .f32) (Mk : Vec F S64 .i32) (q : PosShare TreeShare) (W : Vec F S1024 .i32) (hW : Spread Mk 1024 W)
    (v : FVec F S16 .f32) (hv : ∀ x : S16.Idx, v x = scaled A (x 0).val) (O : CellTallies nD τ sig (HIx 1)) (W₀ : Waits sig (HIx 1))
    (hw1 : k0_chk1 k0_pay117 (broadcast S16 0#32)) (t : Fin k0_t1_loop.trips) :
    inv d L X A Mk q W O W₀ t.val ⟨⟩
      ⊢ wp frame (wpE (defs₀ (F := F)) 𝒱₀ (tl d L) none) Set.univ (trip L k0_pay117 v halves (broadcast S16 0#32) hw1 t) fun _ => inv d L X A Mk q W O W₀ (t.val + 1) ⟨⟩ := by
  unfold inv trip
  simp only [Prog.lift, Prog.bind_op, Prog.bind_ret, Prog.pure_eq_ret]
  iintro ⟨#Hmw, Hx, ⟨%G, Hg⟩, He, ⟨%sv, Hs⟩, ⟨%f5, %hf5, Hap⟩, ⟨%f6, %hf6, Hpv⟩, Hsem, %W', %hW', HO⟩
  iapply (wp_copy d L (src := xV.slice (Rect.unit (s := S262144x16) (k0_off1 L t) S4096x16.size (k0_off1_inb L t)) (fun _ => rfl)) (dst := gB)
    (S := Finset.univ) (fs := X) (Sd := Finset.univ) (fd := G) (W := W') (Finset.subset_univ _) (Finset.subset_univ _) (show 0 < S4096x16.numel by decide))
  isplitr; · iexact Hmw
  isplitl [Hx]; · iexact Hx
  isplitl [Hg]; · iexact Hg
  isplitl [Hsem]; · iexact Hsem
  isplitl [HO]; · iexact HO
  iintro ⟨Hx, Hg, Hsem, HO⟩
  have hG := rows_fetched L X t
  have hwr : (gB).view.write (Elt F) G ((xV.slice (Rect.unit (s := S262144x16) (k0_off1 L t) S4096x16.size (k0_off1_inb L t)) (fun _ => rfl)).view.read (Elt F) X) Finset.univ
      = (xV.slice (Rect.unit (s := S262144x16) (k0_off1 L t) S4096x16.size (k0_off1_inb L t)) (fun _ => rfl)).view.read (Elt F) X := View.write_whole_univ _ _ _
  rw [hwr]
  clear hwr
  generalize (xV.slice (Rect.unit (s := S262144x16) (k0_off1 L t) S4096x16.size (k0_off1_inb L t)) (fun _ => rfl)).view.read (Elt F) X = G' at hG ⊢
  have hga : ∀ x : S16.Idx, absf (subf (loadIdx (((gB).access (.whole S4096x16)).read (Elt F) G') ![k0_pay117, broadcast S16 0#32] (k0_idx1_inb k0_pay117 (broadcast S16 0#32) hw1))
      (loadIdx (((gB).access (.whole S4096x16)).read (Elt F) G') ![addi k0_pay117 (broadcast S16 4#32), broadcast S16 0#32] (k0_idx2_inb (broadcast S16 0#32) _ chk2_holds))) x
      = gapAt X (32 * wid L + 16 * t.val + (x 0).val) := by
    intro x
    have h1 := hG.gather k0_pay117 (broadcast S16 0#32) (k0_idx1_inb k0_pay117 (broadcast S16 0#32) hw1) x 0 0 (lane_base x) rfl
    have h2 := hG.gather (addi k0_pay117 (broadcast S16 4#32)) (broadcast S16 0#32) (k0_idx2_inb (broadcast S16 0#32) _ chk2_holds) x 4 0 (lane_add x 4 (by decide)) rfl
    exact congrArg FloatOps.absf (congrArg₂ FloatOps.subf h1 h2)
  iapply (SparseCore.wp_vectorLoadIdx 𝒱₀ (tl d L) none Set.univ (base := gB) (S := Finset.univ) (Finset.subset_univ _)) $$ Hg
  iintro Hg
  rw [wp_assume_of _ _ _ _ chk2_holds]
  iapply (SparseCore.wp_vectorLoadIdx 𝒱₀ (tl d L) none Set.univ (base := gB) (S := Finset.univ) (Finset.subset_univ _)) $$ Hg
  iintro Hg
  generalize absf (subf (loadIdx (((gB).access (.whole S4096x16)).read (Elt F) G') ![k0_pay117, broadcast S16 0#32] (k0_idx1_inb k0_pay117 (broadcast S16 0#32) hw1))
      (loadIdx (((gB).access (.whole S4096x16)).read (Elt F) G') ![addi k0_pay117 (broadcast S16 4#32), broadcast S16 0#32] (k0_idx2_inb (broadcast S16 0#32) _ chk2_holds))) = gap at hga ⊢
  iapply (wp_diag d L X Mk (32 * wid L + 16 * t.val) G' hG W hW _ 64 le_rfl (acc₀ gap) (fun x => congrArg (fun z => FloatOps.cmpf .olt z (Scalar.ofBits .f32 0x3DCCCCCD#32)) (hga x)))
  isplitl [Hg]; · iexact Hg
  isplitl [He]; · iexact He
  iintro %acc %hacc Hg He
  iapply (wp_load 𝒱₀ (tl d L) none Set.univ (m := pvB) (r := (Rect.unit (s := S32) (k0_off2 t) S16.size (k0_off2_inb t)).toLoadRect) (S := Finset.univ) (Finset.subset_univ _)) $$ Hpv
  iintro Hpv
  iapply (wp_store_writes₀ 𝒱₀ (tl d L) none Set.univ (m := pvB) (r := Rect.unit (s := S32) (k0_off2 t) S16.size (k0_off2_inb t)) (w := gap) (S := Finset.univ) (Finset.subset_univ _)) $$ Hpv
  iintro Hpv
  iapply (wp_load 𝒱₀ (tl d L) none Set.univ (m := sB) (r := (Rect.unit (s := S16) ![0] S16.size inb_S16_S16_0).toLoadRect) (S := Finset.univ) (Finset.subset_univ _)) $$ Hs
  iintro Hs
  iapply (wp_store_writes₀ 𝒱₀ (tl d L) none Set.univ (m := sB) (r := Rect.unit (s := S16) ![0] S16.size inb_S16_S16_0) (w := verdict acc) (S := Finset.univ) (Finset.subset_univ _)) $$ Hs
  iintro Hs
  iapply (wp_pairs d L X A Mk (32 * wid L) t _ ?hsv v hv 8 le_rfl f5 hf5)
  case hsv =>
    intro x
    refine Eq.trans (View.read_writes_cons_hit_of_coords (sB).view sv (Rect.unit (s := S16) ![0] S16.size inb_S16_S16_0) (verdict acc) [] x x ?_) ?_
    · intro a; fin_cases a
      show (x 0).val = 0 + 1 * (x 0).val
      omega
    · exact congrArg (fun z => Scalar.select z (Scalar.ofBits .f32 0x3F800000#32 : F .f32) (Scalar.ofBits .f32 0x00000000#32)) (hacc x)
  isplitl [Hs]; · iexact Hs
  isplitl [Hap]; · iexact Hap
  iintro %f5' %hf5' Hs Hap
  isplitr; · iexact Hmw
  isplitl [Hx]; · iexact Hx
  isplitl [Hg]; · iexists _; iexact Hg
  isplitl [He]; · iexact He
  isplitl [Hs]; · iexists _; iexact Hs
  isplitl [Hap]
  · iexists f5'; isplitr
    · ipureintro; rw [show 128 * (t.val + 1) = 128 * t.val + 128 by omega]; exact hf5'
    · iexact Hap
  isplitl [Hpv]
  · iexists _; isplitr
    · ipureintro
      have h := hf6.step (k0_off2 t) (by rw [off2_eq]; rfl) (k0_off2_inb t) gap hga
      rw [show 16 * (t.val + 1) = 16 * t.val + 16 by omega]
      exact h
    · iexact Hpv
  isplitl [Hsem]; · iexact Hsem
  iexists (insert (SemLoc.dma cc0_scoped2.sem, none) W'); isplitr
  · ipureintro
    intro p hp
    rcases Finset.mem_insert.mp hp with hp | hp
    · exact .inr (by rw [hp])
    · exact hW' p hp
  · iexact HO

end Cert.Proof.Sc

end
-- ==== Proof.Task.lean ====
/-
  A tile's whole task: the mask and the action row fetched, two trips, the results written out.
-/
module

public import proofs.«01_k».proof.Proof.Trip

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)

local notation "𝕄" => MM F

/-! ## The arrays a tile reads and writes -/

abbrev xLoc (d : Dev nD) : Loc nD τ sig := (SparseCore.T d).loc main_v15
abbrev aLoc (d : Dev nD) : Loc nD τ sig := (SparseCore.T d).loc main_v0
abbrev mLoc (d : Dev nD) : Loc nD τ sig := (SparseCore.T d).loc main_v1
abbrev apLoc (d : Dev nD) : Loc nD τ sig := (SparseCore.T d).loc main_v16_0
abbrev pvLoc (d : Dev nD) : Loc nD τ sig := (SparseCore.T d).loc main_v16_1

/-- The pieces of the two results' tails a tile writes. -/
def apSet (L : grid0.Coords) : Finset S8192.Idx := Finset.univ.filter fun x => (x 0).val / 256 = wid L
def pvSet (L : grid0.Coords) : Finset S1024.Idx := Finset.univ.filter fun x => (x 0).val / 32 = wid L

abbrev apPiece (L : grid0.Coords) : Memref sig .scVector .hbm S256 .f32 := apV.slice (Rect.unit (s := S8192) (k0_off12 L) S256.size (k0_off12_inb L)) (fun _ => rfl)
abbrev pvPiece (L : grid0.Coords) : Memref sig .scVector .hbm S32 .f32 := pvV.slice (Rect.unit (s := S1024) (k0_off11 L) S32.size (k0_off11_inb L)) (fun _ => rfl)

theorem apEmb (y : S256.Idx) : (((apPiece L).view.emb y) 0).val = 256 * wid L + (y 0).val := by
  show k0_off12 L 0 + 1 * (y 0).val = _
  rw [off12_eq]
  show 256 * wid L + 1 * (y 0).val = _
  omega

theorem pvEmb (y : S32.Idx) : (((pvPiece L).view.emb y) 0).val = 32 * wid L + (y 0).val := by
  show k0_off11 L 0 + 1 * (y 0).val = _
  rw [off11_eq]
  show 32 * wid L + 1 * (y 0).val = _
  omega

theorem mem_apSet (x : S8192.Idx) (hx : x ∈ apSet L) : ∃ y : S256.Idx, (apPiece L).view.emb y = x := by
  have hx' := (Finset.mem_filter.mp hx).2
  have h := Nat.div_add_mod (x 0).val 256
  refine ⟨fun a => ⟨(x 0).val % 256, by fin_cases a; exact Nat.mod_lt _ (by decide)⟩, ?_⟩
  funext a; fin_cases a; apply Fin.ext
  refine (apEmb L _).trans ?_
  rw [hx'] at h; exact h

theorem mem_pvSet (x : S1024.Idx) (hx : x ∈ pvSet L) : ∃ y : S32.Idx, (pvPiece L).view.emb y = x := by
  have hx' := (Finset.mem_filter.mp hx).2
  have h := Nat.div_add_mod (x 0).val 32
  refine ⟨fun a => ⟨(x 0).val % 32, by fin_cases a; exact Nat.mod_lt _ (by decide)⟩, ?_⟩
  funext a; fin_cases a; apply Fin.ext
  refine (pvEmb L _).trans ?_
  rw [hx'] at h; exact h

theorem apPiece_sub : (apPiece L).view.set ⊆ apSet L := by
  intro x hx
  obtain ⟨y, -, rfl⟩ := Finset.mem_map.mp hx
  refine Finset.mem_filter.mpr ⟨Finset.mem_univ _, ?_⟩
  have hy : (y 0).val < 256 := (y 0).isLt
  show (((apPiece L).view.emb y) 0).val / 256 = _
  rw [apEmb]; omega

theorem pvPiece_sub : (pvPiece L).view.set ⊆ pvSet L := by
  intro x hx
  obtain ⟨y, -, rfl⟩ := Finset.mem_map.mp hx
  refine Finset.mem_filter.mpr ⟨Finset.mem_univ _, ?_⟩
  have hy : (y 0).val < 32 := (y 0).isLt
  show (((pvPiece L).view.emb y) 0).val / 32 = _
  rw [pvEmb]; omega

/-- What the write-outs leave on a tile's pieces. -/
theorem ap_written (X : Vec F S262144x16 .f32) (A : Vec F S16 .f32) (Mk : Vec F S64 .i32) (f : Vec F S256 .f32) (hf : Paired X A Mk (32 * wid L) 256 f) (f₀ : Vec F S8192 .f32) :
    ∀ x ∈ apSet L, (apPiece L).view.write (Elt F) f₀ f Finset.univ x = apOut X A Mk x := by
  intro x hx
  obtain ⟨y, rfl⟩ := mem_apSet L x hx
  refine (View.write_emb_of_mem _ _ (Finset.mem_univ y)).trans ?_
  have hy : (y 0).val < 256 := (y 0).isLt
  refine (hf y hy).trans ?_
  unfold apOut
  rw [apEmb, show (256 * wid L + (y 0).val) / 8 = 32 * wid L + (y 0).val / 8 by omega,
    scaled_congr A (show (256 * wid L + (y 0).val) % 16 = (y 0).val % 16 by omega)]

theorem pv_written (X : Vec F S262144x16 .f32) (f : Vec F S32 .f32) (hf : Gapped X (32 * wid L) 32 f) (f₀ : Vec F S1024 .f32) :
    ∀ x ∈ pvSet L, (pvPiece L).view.write (Elt F) f₀ f Finset.univ x = pvOut X x := by
  intro x hx
  obtain ⟨y, rfl⟩ := mem_pvSet L x hx
  refine (View.write_emb_of_mem _ _ (Finset.mem_univ y)).trans ?_
  have hy : (y 0).val < 32 := (y 0).isLt
  refine (hf y hy).trans ?_
  unfold pvOut
  rw [pvEmb]

/-- What a tile is handed: shares of the table, of the action row and of the mask, and its pieces of the results. -/
def goP (X : Vec F S262144x16 .f32) (A : Vec F S16 .f32) (Mk : Vec F S64 .i32) (q : PosShare TreeShare) : sProp 𝕄 :=
  iprop((xLoc d ↦{q} X) ∗ (aLoc d ↦{q} A) ∗ (mLoc d ↦{q} Mk) ∗ (∃ f, apLoc d ↦[apSet L]{fullShare} f) ∗ ∃ f, pvLoc d ↦[pvSet L]{fullShare} f)

/-- What it hands back: the shares, and its pieces at their values. -/
def tdP (X : Vec F S262144x16 .f32) (A : Vec F S16 .f32) (Mk : Vec F S64 .i32) (q : PosShare TreeShare) : sProp 𝕄 :=
  iprop((xLoc d ↦{q} X) ∗ (aLoc d ↦{q} A) ∗ (mLoc d ↦{q} Mk) ∗ (apLoc d ↦[apSet L]{fullShare} apOut X A Mk) ∗ (pvLoc d ↦[pvSet L]{fullShare} pvOut X))

/-- A tile's scratch buffers, at any contents, and its semaphores' counters at zero. -/
def scr : sProp 𝕄 :=
  iprop((∃ f, (tl d L).loc cc0_scratch0 ↦{fullShare} f) ∗ (∃ f, (tl d L).loc cc0_scratch1 ↦{fullShare} f) ∗ (∃ f, (tl d L).loc cc0_scratch2 ↦{fullShare} f)
    ∗ (∃ f, (tl d L).loc cc0_scratch3 ↦{fullShare} f) ∗ (∃ f, (tl d L).loc cc0_scratch4 ↦{fullShare} f) ∗ (∃ f, (tl d L).loc cc0_scratch5 ↦{fullShare} f)
    ∗ (∃ f, (tl d L).loc cc0_scratch6 ↦{fullShare} f))
def sems : sProp 𝕄 :=
  iprop(semVal (tl d L, SemLoc.dma cc0_scoped0.sem) 0 ∗ semVal (tl d L, SemLoc.dma cc0_scoped1.sem) 0 ∗ semVal (tl d L, SemLoc.dma cc0_scoped2.sem) 0
    ∗ semVal (tl d L, SemLoc.dma cc0_scoped3.sem) 0 ∗ semVal (tl d L, SemLoc.dma cc0_scoped4.sem) 0)

/-- A wait recorded at no index is one of those a task may record. -/
theorem waits_insert {W₀ W : Waits sig (HIx 1)} (h : ∀ p ∈ W, p ∈ W₀ ∨ p.2 = none) (sm : SemLoc sig) : ∀ p ∈ insert (sm, (none : HIx 1)) W, p ∈ W₀ ∨ p.2 = none := by
  intro p hp
  rcases Finset.mem_insert.mp hp with hp | hp
  · exact .inr (by rw [hp])
  · exact h p hp

/-- The task. -/
theorem wp_task (X : Vec F S262144x16 .f32) (A : Vec F S16 .f32) (Mk : Vec F S64 .i32) (q : PosShare TreeShare) (O : CellTallies nD τ sig (HIx 1)) (W : Waits sig (HIx 1)) :
    iprop(Transfers.MayWaits (tl d L) (none : HIx 1) O ∗ goP d L X A Mk q ∗ scr d L ∗ sems d L ∗ owes (tl d L) O W)
      ⊢ wp frame (wpE (defs₀ (F := F)) 𝒱₀ (tl d L) none) Set.univ (task L) fun _ =>
          iprop(tdP d L X A Mk q ∗ scr d L ∗ sems d L ∗ ∃ W', ⌜∀ p ∈ W', p ∈ W ∨ p.2 = none⌝ ∗ owes (tl d L) O W') := by
  unfold goP scr sems task
  simp only [Prog.lift, Prog.bind_op, Prog.bind_ret, Prog.pure_eq_ret]
  iintro ⟨#Hmw, ⟨Hx, Ha, Hm, ⟨%fap, Hap⟩, ⟨%fpv, Hpv⟩⟩, ⟨⟨%f0, H0⟩, ⟨%f1, H1⟩, ⟨%f2, H2⟩, ⟨%f3, H3⟩, ⟨%f4, H4⟩, ⟨%f5, H5⟩, ⟨%f6, H6⟩⟩, ⟨S0, S1, S2, S3, S4⟩, HO⟩
  -- the mask and the action row fetched
  iapply (wp_copy d L (src := mV) (dst := mB) (S := Finset.univ) (fs := Mk) (q := q) (Sd := Finset.univ) (fd := f1) (W := W) (Finset.subset_univ _) (Finset.subset_univ _) (show 0 < S64.numel by decide))
  isplitr; · iexact Hmw
  isplitl [Hm]; · iexact Hm
  isplitl [H1]; · iexact H1
  isplitl [S0]; · iexact S0
  isplitl [HO]; · iexact HO
  iintro ⟨Hm, H1, S0, HO⟩
  rw [show (mB).view.write (Elt F) f1 ((mV).view.read (Elt F) Mk) Finset.univ = Mk from View.write_whole_univ _ _ _]
  iapply (wp_copy d L (src := aV) (dst := cB) (S := Finset.univ) (fs := A) (q := q) (Sd := Finset.univ) (fd := f3) (W := _) (Finset.subset_univ _) (Finset.subset_univ _) (show 0 < S16.numel by decide))
  isplitr; · iexact Hmw
  isplitl [Ha]; · iexact Ha
  isplitl [H3]; · iexact H3
  isplitl [S1]; · iexact S1
  isplitl [HO]; · iexact HO
  iintro ⟨Ha, H3, S1, HO⟩
  rw [show (cB).view.write (Elt F) f3 ((aV).view.read (Elt F) A) Finset.univ = A from View.write_whole_univ _ _ _]
  -- the mask spread
  iapply (wp_groups d L _ Mk 4 le_rfl f2 (fun x hx => absurd hx (by omega)))
  isplitl [H1]; · iexact H1
  isplitl [H2]; · iexact H2
  iintro %Ws %hWs H1 H2
  -- the action row read
  iapply (wp_load 𝒱₀ (tl d L) none Set.univ (m := cB) (r := (Rect.unit (s := S16) ![0] S16.size inb_S16_S16_0).toLoadRect) (S := Finset.univ) (Finset.subset_univ _)) $$ H3
  iintro H3
  rw [wp_assume_of _ _ _ _ chk1_holds]
  -- the two trips
  iapply (Scf.wp_for_bind frame (wpE (defs₀ (F := F)) 𝒱₀ (tl d L) none) Set.univ _ _ _ _ _ _ (inv d L X A Mk q Ws O (insert (SemLoc.dma cc0_scoped1.sem, none) (insert (SemLoc.dma cc0_scoped0.sem, none) W)))
    (fun t _ => wp_trip d L X A Mk q Ws hWs _ ?hv O _ chk1_holds t)) $$ [Hx H0 H2 H4 H5 H6 S2 HO]
  case hv =>
    intro x
    have e : (Rect.unit (s := S16) ![0] S16.size inb_S16_S16_0).toLoadRect.idx x = at16 (x 0).val := by
      funext a; fin_cases a; apply Fin.ext
      have hx : (x 0).val < 16 := (x 0).isLt
      show 0 + 1 * (x 0).val = (x 0).val % 16
      omega
    show FloatOps.divf (A _) (FloatOps.addf (A _) _) = _
    unfold scaled
    rw [← e]; rfl
  · unfold inv
    isplitr; · iexact Hmw
    isplitl [Hx]; · iexact Hx
    isplitl [H0]; · iexists f0; iexact H0
    isplitl [H2]; · iexact H2
    isplitl [H4]; · iexists f4; iexact H4
    isplitl [H5]
    · iexists f5; isplitr
      · ipureintro; exact fun x hx => absurd hx (by omega)
      · iexact H5
    isplitl [H6]
    · iexists f6; isplitr
      · ipureintro; exact fun x hx => absurd hx (by omega)
      · iexact H6
    isplitl [S2]; · iexact S2
    iexists _; isplitr
    · ipureintro; exact fun p hp => .inl hp
    · iexact HO
  iintro %_ HI
  unfold inv
  icases HI with ⟨-, Hx, ⟨%g, H0⟩, H2, ⟨%sv, H4⟩, ⟨%a5, %h5, H5⟩, ⟨%a6, %h6, H6⟩, S2, %W', %hW', HO⟩
  -- the results written out
  iapply (wp_copy d L (src := pvB) (dst := pvPiece L) (S := Finset.univ) (fs := a6) (q := fullShare) (Sd := pvSet L) (fd := fpv) (W := W') (Finset.subset_univ _) (pvPiece_sub L) (show 0 < S32.numel by decide))
  isplitr; · iexact Hmw
  isplitl [H6]; · iexact H6
  isplitl [Hpv]; · iexact Hpv
  isplitl [S3]; · iexact S3
  isplitl [HO]; · iexact HO
  iintro ⟨H6, Hpv, S3, HO⟩
  iapply (wp_copy d L (src := apB) (dst := apPiece L) (S := Finset.univ) (fs := a5) (q := fullShare) (Sd := apSet L) (fd := fap) (W := _) (Finset.subset_univ _) (apPiece_sub L) (show 0 < S256.numel by decide))
  isplitr; · iexact Hmw
  isplitl [H5]; · iexact H5
  isplitl [Hap]; · iexact Hap
  isplitl [S4]; · iexact S4
  isplitl [HO]; · iexact HO
  iintro ⟨H5, Hap, S4, HO⟩
  rw [wp_ret]; imodintro
  isplitl [Hx Ha Hm Hap Hpv]
  · unfold tdP
    isplitl [Hx]; · iexact Hx
    isplitl [Ha]; · iexact Ha
    isplitl [Hm]; · iexact Hm
    isplitl [Hap]
    · iapply (Entails.of_eq (pointsTo_congr (ap_written L X A Mk a5 h5 fap))); iexact Hap
    · iapply (Entails.of_eq (pointsTo_congr (pv_written L X a6 h6 fpv))); iexact Hpv
  isplitl [H0 H1 H2 H3 H4 H5 H6]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6
  isplitl [S0 S1 S2 S3 S4]
  · isplitl [S0]; · iexact S0
    isplitl [S1]; · iexact S1
    isplitl [S2]; · iexact S2
    isplitl [S3]; · iexact S3
    iexact S4
  iexists (insert (SemLoc.dma cc0_scoped4.sem, none) (insert (SemLoc.dma cc0_scoped3.sem, none) W')); isplitr
  · ipureintro
    refine waits_insert (waits_insert (fun p hp => ?_) _) _
    rcases hW' p hp with h | h
    · exact waits_insert (waits_insert (fun p hp => .inl hp) _) _ p h
    · exact .inr h
  iexact HO

end Cert.Proof.Sc

end
-- ==== Proof.Launch.lean ====
/-
  The launch of the tiles: the payloads of the handshakes, a tile's obligation, and the split of a SparseCore's operands
  among its tiles.
-/
module

public import proofs.«01_k».proof.Proof.Task

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)

local notation "𝕄" => MM F

/-! ## A tile's own buffers and semaphores -/

/-- A tile's references as buffers of its device. -/
def bufE : Ref sig .scVector ↪ DevRef τ sig := ⟨Proc.devRef (tl d L).2, Proc.devRef_injective _⟩

/-- A tile's semaphores as cells. -/
def semE : SemLoc sig ↪ GSem nD τ sig := ⟨fun sm => (tl d L, sm), fun _ _ h => (Prod.mk.inj h).2⟩

def scrRefs : Finset (Ref sig .scVector) :=
  {cc0_scratch0, cc0_scratch1, cc0_scratch2, cc0_scratch3, cc0_scratch4, cc0_scratch5, cc0_scratch6}
def semRefs : Finset (SemLoc sig) :=
  {SemLoc.dma cc0_scoped0.sem, SemLoc.dma cc0_scoped1.sem, SemLoc.dma cc0_scoped2.sem, SemLoc.dma cc0_scoped3.sem, SemLoc.dma cc0_scoped4.sem}

theorem scrRefs_sub : scrRefs.map (bufE d L) ⊆ SparseCore.Cfg.ownRefs (tl d L).2 := by
  intro b hb
  obtain ⟨r, hr, rfl⟩ := Finset.mem_map.mp hb
  refine SparseCore.Cfg.mem_ownRefs_of_owner ?_
  simp only [scrRefs, Finset.mem_insert, Finset.mem_singleton] at hr
  rcases hr with rfl | rfl | rfl | rfl | rfl | rfl | rfl <;> rfl

theorem semRefs_sub : semRefs.map (semE d L) ⊆ SparseCore.Cfg.ownCells (tl d L) := by
  intro g hg
  obtain ⟨r, hr, rfl⟩ := Finset.mem_map.mp hg
  refine SparseCore.Cfg.mem_ownCells.mpr ⟨rfl, ?_⟩
  simp only [semRefs, Finset.mem_insert, Finset.mem_singleton] at hr
  rcases hr with rfl | rfl | rfl | rfl | rfl <;> rfl

/-- The scratch among a tile's buffers; -/
theorem ownBufs_scr : (SparseCore.Cfg.ownBufs (tl d L) : sProp 𝕄)
    = iprop(scr d L ∗ bigSep (SparseCore.Cfg.ownRefs (tl d L).2 \ scrRefs.map (bufE d L)) fun b => iprop(∃ f, ((d, b) : Loc nD τ sig) ↦{fullShare} f)) := by
  unfold SparseCore.Cfg.ownBufs
  rw [SparseCore.bigSep_sdiff_split' (scrRefs_sub d L), bigSep_map]
  congr 1
  unfold scrRefs scr
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

/-- the five copies' semaphores among its semaphores. -/
theorem ownSems_sems : (SparseCore.Cfg.ownSems0 (tl d L) : sProp 𝕄)
    = iprop(sems d L ∗ bigSep (SparseCore.Cfg.ownCells (tl d L) \ semRefs.map (semE d L)) fun g => semVal g 0) := by
  unfold SparseCore.Cfg.ownSems0
  rw [SparseCore.bigSep_sdiff_split' (semRefs_sub d L), bigSep_map]
  congr 1
  unfold semRefs sems
  rw [SparseCore.bigSep_insert' (by decide), SparseCore.bigSep_insert' (by decide), SparseCore.bigSep_insert' (by decide), SparseCore.bigSep_insert' (by decide),
    bigSep_singleton]
  rfl

/-- A tile from what its launch hands it to what it hands back. -/
theorem tile_run (X : Vec F S262144x16 .f32) (A : Vec F S16 .f32) (Mk : Vec F S64 .i32) (q : PosShare TreeShare) (O : CellTallies nD τ sig (HIx 1))
    (W : Waits sig (HIx 1)) (hO : ∀ g, O g none = 0) :
    iprop(levAts (K (F := F)).L (K (F := F)).lev ∗ emp ∗ goP d L X A Mk q ∗ scopedBufs (tl d L) ∗ scopedSems0 (tl d L) ∗ owes (tl d L) O W)
      ⊢ wp frame (wpE (defs₀ (F := F)) 𝒱₀ (tl d L) none) Set.univ (task L) fun _ =>
          iprop(tdP d L X A Mk q ∗ scopedBufs (tl d L) ∗ scopedSems0 (tl d L) ∗ ∃ W', ⌜∀ p ∈ W', p ∈ W ∨ p.2 = none⌝ ∗ owes (tl d L) O W') := by
  rw [(K (F := F)).scopedBufs_V facts, SparseCore.Cfg.scopedSems0_V (Val := Elt F), ownBufs_scr, ownSems_sems]
  iintro ⟨#Hlv, -, Hgo, ⟨Hs, Hbr⟩, ⟨Hm, Hmr⟩, HO⟩
  iapply (wp_wand_r frame (wpE (defs₀ (F := F)) 𝒱₀ (tl d L) none) Set.univ) $$ [Hgo Hs Hm HO Hbr Hmr]
  isplitl [Hgo Hs Hm HO]
  · iapply (wp_task d L X A Mk q O W)
    isplitr; · iapply ((K (F := F)).mayWaits_none (thr := tl d L) hO); iexact Hlv
    isplitl [Hgo]; · iexact Hgo
    isplitl [Hs]; · iexact Hs
    isplitl [Hm]; · iexact Hm
    iexact HO
  iintro %_ ⟨Htd, Hs, Hm, HO⟩
  isplitl [Htd]; · iexact Htd
  isplitl [Hs Hbr]; · isplitl [Hs]; · iexact Hs
                      iexact Hbr
  isplitl [Hm Hmr]; · isplitl [Hm]; · iexact Hm
                      iexact Hmr
  iexact HO

/-! ## The payloads -/

/-- A tile's coordinates. -/
def coordsV (c : Fin 2) (s : Fin 16) : grid0.Coords :=
  fun | 0 => c | 1 => s | ⟨_ + 2, h⟩ => absurd h (Nat.not_lt.2 (Nat.le_add_left _ _))

theorem wid_coordsV (c : Fin 2) (s : Fin 16) : wid (coordsV c s) = 2 * s.val + c.val := rfl

/-- The share of a SparseCore and of a tile in an array that all read. -/
def qC (c : Fin 2) : PosShare TreeShare := Transfers.dealOf fullShare (Finset.univ : Finset (Fin 2)) c
def qT (c : Fin 2) (i : Fin 16) : PosShare TreeShare := Transfers.dealOf (qC c) (Finset.univ : Finset (Fin 16)) i

def apSetC (c : Fin 2) : Finset S8192.Idx := (Finset.univ : Finset (Fin 16)).biUnion fun i => apSet (coordsV c i)
def pvSetC (c : Fin 2) : Finset S1024.Idx := (Finset.univ : Finset (Fin 16)).biUnion fun i => pvSet (coordsV c i)

/-- What a SparseCore is handed, and what it hands back. -/
def stP (X : Vec F S262144x16 .f32) (A : Vec F S16 .f32) (Mk : Vec F S64 .i32) (c : Fin 2) : sProp 𝕄 :=
  iprop((xLoc d ↦{qC c} X) ∗ (aLoc d ↦{qC c} A) ∗ (mLoc d ↦{qC c} Mk) ∗ (∃ f, apLoc d ↦[apSetC c]{fullShare} f) ∗ ∃ f, pvLoc d ↦[pvSetC c]{fullShare} f)
def dnP (X : Vec F S262144x16 .f32) (A : Vec F S16 .f32) (Mk : Vec F S64 .i32) (c : Fin 2) : sProp 𝕄 :=
  iprop((xLoc d ↦{qC c} X) ∗ (aLoc d ↦{qC c} A) ∗ (mLoc d ↦{qC c} Mk) ∗ (apLoc d ↦[apSetC c]{fullShare} apOut X A Mk) ∗ (pvLoc d ↦[pvSetC c]{fullShare} pvOut X))

variable (X : Dev nD → Vec F S262144x16 .f32) (A : Dev nD → Vec F S16 .f32) (Mk : Dev nD → Vec F S64 .i32)

/-- The payloads of the handshakes, at the contents of the three arrays the tiles read. -/
def P : (K (F := F)).Pay (nD := nD) (Val := Elt F) (Name := ℕ) (U := UU) where
  st := fun q d c => match q with | 0 => stP d (X d) (A d) (Mk d) c
  dn := fun q d c => match q with | 0 => dnP d (X d) (A d) (Mk d) c
  go := fun q d c i => match q with | 0 => goP d (coordsV c i) (X d) (A d) (Mk d) (qT c i)
  td := fun q d c i => match q with | 0 => tdP d (coordsV c i) (X d) (A d) (Mk d) (qT c i)
  x := fun q _ => match q with | 0 => iprop(emp)

instance P_storable : (P (F := F) X A Mk).IsStorable where
  st := fun q d c => match q with | 0 => by show BI.Storable _ (stP _ _ _ _ _); unfold stP; infer_instance
  dn := fun q d c => match q with | 0 => by show BI.Storable _ (dnP _ _ _ _ _); unfold dnP; infer_instance
  go := fun q d c i => match q with | 0 => by show BI.Storable _ (goP _ _ _ _ _ _); unfold goP; infer_instance
  td := fun q d c i => match q with | 0 => by show BI.Storable _ (tdP _ _ _ _ _ _); unfold tdP; infer_instance

/-! ## A tile's obligation -/

theorem defs₀_vector (c : Fin τ.nSC) (s : Fin τ.nSub) :
    defs₀ (F := F) (.scVector c s) 0 ()
      = SparseCore.onTile hcore0 hsub0 (fun c s => task (coordsV c s)) ⟨⟩ c s := by
  simp only [← body_eq]
  rfl

theorem obl_post {thr : Thread nD τ} {B₀ B₁ B₂ : sProp 𝕄} {O : CellTallies nD τ sig (HIx 1)} {W : Waits sig (HIx 1)} {q : Fin 1} :
    iprop(B₀ ∗ B₁ ∗ B₂ ∗ ∃ W', ⌜∀ p ∈ W', p ∈ W ∨ p.2 = none⌝ ∗ owes thr O W')
      ⊢ iprop(B₀ ∗ B₁ ∗ B₂ ∗ ∃ W', ⌜∀ p ∈ W', p ∈ W ∨ p.2 = none ∨ p.2 = some q⌝ ∗ owes thr O W') := by
  iintro ⟨H₀, H₁, H₂, %W', %hW, HO⟩
  isplitl [H₀]; · iexact H₀
  isplitl [H₁]; · iexact H₁
  isplitl [H₂]; · iexact H₂
  iexists W'; isplitr
  · ipureintro; intro p hp; rcases hW p hp with h | h
    · exact .inl h
    · exact .inr (.inl h)
  iexact HO

theorem tileObl : (K (F := F)).TileObl (D (F := F)) 𝒱 (P X A Mk) v₀ 0 := by
  intro d c i O W hO _ _
  simp only [show (P X A Mk).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_run d (coordsV ⟨_, hc.1⟩ ⟨_, hc.2⟩) (X d) (A d) (Mk d) (qT c i) O W hO).trans (wp_mono frame _ _ fun _ => obl_post)

/-! ## A SparseCore's operands among its tiles -/

theorem apSet_disj {L L' : grid0.Coords} (h : wid L ≠ wid L') : Disjoint (apSet L) (apSet L') :=
  Finset.disjoint_left.mpr fun x hx hx' => h ((Finset.mem_filter.mp hx).2.symm.trans (Finset.mem_filter.mp hx').2)
theorem pvSet_disj {L L' : grid0.Coords} (h : wid L ≠ wid L') : Disjoint (pvSet L) (pvSet L') :=
  Finset.disjoint_left.mpr fun x hx hx' => h ((Finset.mem_filter.mp hx).2.symm.trans (Finset.mem_filter.mp hx').2)

theorem wid_tile_ne (c : Fin 2) {i j : Fin 16} (h : i ≠ j) : wid (coordsV c i) ≠ wid (coordsV c j) := by
  rw [wid_coordsV, wid_coordsV]; intro e; exact h (Fin.ext (by omega))
theorem wid_core_ne {c c' : Fin 2} (i j : Fin 16) (h : c ≠ c') : wid (coordsV c i) ≠ wid (coordsV c' j) := by
  rw [wid_coordsV, wid_coordsV]; intro e
  have := c.isLt; have := c'.isLt
  exact h (Fin.ext (by omega))

theorem apPts_tiles (c : Fin 2) (f : Vec F S8192 .f32) :
    (apLoc d ↦[apSetC c]{fullShare} f : sProp 𝕄) = bigSep Finset.univ fun i : Fin 16 => apLoc d ↦[apSet (coordsV c i)]{fullShare} f :=
  pointsTo_biUnion Finset.univ (ℓ := apLoc d) (fun i : Fin 16 => apSet (coordsV c i)) fun _ _ _ _ h => apSet_disj (wid_tile_ne c h)
theorem pvPts_tiles (c : Fin 2) (f : Vec F S1024 .f32) :
    (pvLoc d ↦[pvSetC c]{fullShare} f : sProp 𝕄) = bigSep Finset.univ fun i : Fin 16 => pvLoc d ↦[pvSet (coordsV c i)]{fullShare} f :=
  pointsTo_biUnion Finset.univ (ℓ := pvLoc d) (fun i : Fin 16 => pvSet (coordsV c i)) fun _ _ _ _ h => pvSet_disj (wid_tile_ne c h)

theorem share_tiles {ℓ : Loc nD τ sig} (c : Fin 2) (f : Buf (Elt F) ℓ) :
    (ℓ ↦{qC c} f : sProp 𝕄) = bigSep Finset.univ fun i : Fin 16 => ℓ ↦{qT c i} f :=
  Transfers.pointsTo_deal (Finset.univ : Finset (Fin 16)) Finset.univ_nonempty (qC c)

/-- Something at one choice is each at some choice. -/
theorem some_each {I α : Type} {s : Finset I} (Φ : I → α → sProp 𝕄) : iprop(∃ f, bigSep s fun i => Φ i f) ⊢ bigSep s fun i => iprop(∃ f, Φ i f) := by
  iintro ⟨%f, H⟩
  have h : (bigSep s fun i => Φ i f) ⊢ bigSep s fun i => iprop(∃ f, Φ i f) :=
    bigSep_mono fun i _ => show Φ i f ⊢ iprop(∃ f, Φ i f) by iintro H; iexists f; iexact H
  iapply h; iexact H

theorem vecSplit : (K (F := F)).VecSplit' (P X A Mk) 0 := by
  intro d c
  show stP d (X d) (A d) (Mk d) c ⊢ |={Set.univ}=> iprop((bigSep Finset.univ fun i : Fin 16 => goP d (coordsV c i) (X d) (A d) (Mk d) (qT c i))
    ∗ ((bigSep Finset.univ fun i : Fin 16 => tdP d (coordsV c i) (X d) (A d) (Mk d) (qT c i)) -∗ dnP d (X d) (A d) (Mk d) c))
  unfold stP dnP goP tdP
  simp only [bigSep_sep', apPts_tiles, pvPts_tiles, share_tiles]
  iintro ⟨Hx, Ha, Hm, Hap, Hpv⟩; imodintro
  isplitl
  · isplitl [Hx]; · iexact Hx
    isplitl [Ha]; · iexact Ha
    isplitl [Hm]; · iexact Hm
    isplitl [Hap]
    · iapply (some_each (F := F) fun i f => (apLoc d ↦[apSet (coordsV c i)]{fullShare} f)); iexact Hap
    · iapply (some_each (F := F) fun i f => (pvLoc d ↦[pvSet (coordsV c i)]{fullShare} f)); iexact Hpv
  iintro H; iexact H

/-! ## The arrays between the two SparseCores -/

theorem cover_row {w : ℕ} (h : w < 32) : ∃ c : Fin 2, ∃ i : Fin 16, wid (coordsV c i) = w :=
  ⟨⟨w % 2, Nat.mod_lt _ (by decide)⟩, ⟨w / 2, by omega⟩, by rw [wid_coordsV]; show 2 * (w / 2) + w % 2 = w; omega⟩

theorem apCover : (Finset.univ : Finset (Fin 2)).biUnion apSetC = Finset.univ := by
  refine Finset.eq_univ_iff_forall.mpr fun x => ?_
  have hx : (x 0).val < 8192 := (x 0).isLt
  obtain ⟨c, i, h⟩ := cover_row (w := (x 0).val / 256) (by omega)
  exact Finset.mem_biUnion.mpr ⟨c, Finset.mem_univ _, Finset.mem_biUnion.mpr ⟨i, Finset.mem_univ _, Finset.mem_filter.mpr ⟨Finset.mem_univ _, h.symm⟩⟩⟩
theorem pvCover : (Finset.univ : Finset (Fin 2)).biUnion pvSetC = Finset.univ := by
  refine Finset.eq_univ_iff_forall.mpr fun x => ?_
  have hx : (x 0).val < 1024 := (x 0).isLt
  obtain ⟨c, i, h⟩ := cover_row (w := (x 0).val / 32) (by omega)
  exact Finset.mem_biUnion.mpr ⟨c, Finset.mem_univ _, Finset.mem_biUnion.mpr ⟨i, Finset.mem_univ _, Finset.mem_filter.mpr ⟨Finset.mem_univ _, h.symm⟩⟩⟩

theorem apSetC_disj (c c' : Fin 2) (h : c ≠ c') : Disjoint (apSetC c) (apSetC c') :=
  Finset.disjoint_biUnion_left _ _ _ |>.mpr fun i _ => Finset.disjoint_biUnion_right _ _ _ |>.mpr fun j _ => apSet_disj (wid_core_ne i j h)
theorem pvSetC_disj (c c' : Fin 2) (h : c ≠ c') : Disjoint (pvSetC c) (pvSetC c') :=
  Finset.disjoint_biUnion_left _ _ _ |>.mpr fun i _ => Finset.disjoint_biUnion_right _ _ _ |>.mpr fun j _ => pvSet_disj (wid_core_ne i j h)

theorem apPts_cores (f : Vec F S8192 .f32) :
    (apLoc d ↦{fullShare} f : sProp 𝕄) = bigSep Finset.univ fun c : Fin 2 => apLoc d ↦[apSetC c]{fullShare} f := by
  rw [← pointsTo_biUnion Finset.univ (ℓ := apLoc d) apSetC fun c _ c' _ h => apSetC_disj c c' h, apCover]
theorem pvPts_cores (f : Vec F S1024 .f32) :
    (pvLoc d ↦{fullShare} f : sProp 𝕄) = bigSep Finset.univ fun c : Fin 2 => pvLoc d ↦[pvSetC c]{fullShare} f := by
  rw [← pointsTo_biUnion Finset.univ (ℓ := pvLoc d) pvSetC fun c _ c' _ h => pvSetC_disj c c' h, pvCover]
theorem share_cores {ℓ : Loc nD τ sig} (f : Buf (Elt F) ℓ) :
    (ℓ ↦{fullShare} f : sProp 𝕄) = bigSep Finset.univ fun c : Fin 2 => ℓ ↦{qC c} f :=
  Transfers.pointsTo_deal (Finset.univ : Finset (Fin 2)) Finset.univ_nonempty fullShare

theorem ap_out : iprop(∃ f, apLoc d ↦{fullShare} f) ⊢ (bigSep Finset.univ fun c : Fin 2 => iprop(∃ f, apLoc d ↦[apSetC c]{fullShare} f) : sProp 𝕄) := by
  iintro ⟨%f, H⟩
  iapply (some_each (F := F) fun c f => (apLoc d ↦[apSetC c]{fullShare} f))
  iexists f
  iapply (Entails.of_eq (apPts_cores d f)); iexact H
theorem pv_out : iprop(∃ f, pvLoc d ↦{fullShare} f) ⊢ (bigSep Finset.univ fun c : Fin 2 => iprop(∃ f, pvLoc d ↦[pvSetC c]{fullShare} f) : sProp 𝕄) := by
  iintro ⟨%f, H⟩
  iapply (some_each (F := F) fun c f => (pvLoc d ↦[pvSetC c]{fullShare} f))
  iexists f
  iapply (Entails.of_eq (pvPts_cores d f)); iexact H

/-- Before the call: the whole arrays, to both SparseCores. -/
theorem hand_out (X : Vec F S262144x16 .f32) (A : Vec F S16 .f32) (Mk : Vec F S64 .i32) :
    iprop((xLoc d ↦{fullShare} X) ∗ (aLoc d ↦{fullShare} A) ∗ (mLoc d ↦{fullShare} Mk) ∗ (∃ f, apLoc d ↦{fullShare} f) ∗ ∃ f, pvLoc d ↦{fullShare} f)
      ⊢ (bigSep Finset.univ fun c : Fin 2 => stP d X A Mk c : sProp 𝕄) := by
  unfold stP
  rw [bigSep_sep', bigSep_sep', bigSep_sep', bigSep_sep']
  exact BI.sep_mono (Entails.of_eq (share_cores (ℓ := xLoc d) X)) (BI.sep_mono (Entails.of_eq (share_cores (ℓ := aLoc d) A)) (BI.sep_mono (Entails.of_eq (share_cores (ℓ := mLoc d) Mk)) (BI.sep_mono (ap_out d) (pv_out d))))

/-- After it: the whole arrays, the results at their values. -/
theorem hand_in (X : Vec F S262144x16 .f32) (A : Vec F S16 .f32) (Mk : Vec F S64 .i32) :
    (bigSep Finset.univ fun c : Fin 2 => dnP d X A Mk c : sProp 𝕄)
      ⊢ iprop((xLoc d ↦{fullShare} X) ∗ (aLoc d ↦{fullShare} A) ∗ (mLoc d ↦{fullShare} Mk) ∗ (apLoc d ↦{fullShare} apOut X A Mk) ∗ pvLoc d ↦{fullShare} pvOut X) := by
  unfold dnP
  rw [bigSep_sep', bigSep_sep', bigSep_sep', bigSep_sep']
  exact BI.sep_mono (Entails.of_eq (share_cores (ℓ := xLoc d) X).symm) (BI.sep_mono (Entails.of_eq (share_cores (ℓ := aLoc d) A).symm) (BI.sep_mono (Entails.of_eq (share_cores (ℓ := mLoc d) Mk).symm)
    (BI.sep_mono (Entails.of_eq (apPts_cores d _).symm) (Entails.of_eq (pvPts_cores d _).symm))))

end Cert.Proof.Sc

end
-- ==== Proof.Body.lean ====
/-
  The TensorCore kernel's body at one grid point: it reads a block of 512 flattened rows, the action row, the flattened
  mask and the diagonal's indicator, and leaves the block's two pieces of the results.
-/
module

public import proofs.«01_k».proof.Proof.Base
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.Value

@[expose] public section

noncomputable section

namespace Cert.Proof.Sc

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (c : Dev nD)

local notation "𝕄" => MM F

/-- A load of everything a memref names, the memref owned at `X`, reads `X`. -/
theorem wp_load_all {cs : CoreSpace} {s : Shape} {e : EltTy} (m : Memref sig .tc cs s e) {off : Fin s.rank → Nat}
    (h0 : off = fun _ => 0) (inb : ∀ a, off a + s.size a ≤ s.size a) {hl : m.view.LoadsAt (Rect.unit (s := s) off s.size inb).toLoadRect}
    {α : Type} {k : (s.Idx → Elt F e) → Prog (TpuEff nD τ sig (Elt F) Λ₀ .tc) α} {X : s.Idx → Elt F e} {Q : α → sProp 𝕄} :
    (owns (c : Thread nD τ) m fullShare X : sProp 𝕄)
      ⊢ iprop((owns (c : Thread nD τ) m fullShare X -∗ wp frame (wpE (defs₀ (F := F)) 𝒱₀ c none) Set.univ (k X) Q)
        -∗ wp frame (wpE (defs₀ (F := F)) 𝒱₀ c none) Set.univ (.op (.load m (Rect.unit (s := s) off s.size inb).toLoadRect hl) k) Q) := by
  unfold owns
  iintro ⟨%f, %hf, H⟩ Hk
  iapply (wp_load 𝒱₀ (c : Thread nD τ) none Set.univ (m := m) (r := (Rect.unit (s := s) off s.size inb).toLoadRect) (S := m.view.set) (f := f)
    (m.view.setOn_subset_set _)) $$ H
  iintro H
  have hread : m.view.readAt (Elt F) (Rect.unit (s := s) off s.size inb).toLoadRect f = X := by
    rw [← hf]; exact View.ld_unit_zero h0 inb _
  rw [hread]
  iapply Hk
  iexists f
  isplitr; · ipureintro; exact hf
  iexact H

/-- A store over everything a memref names leaves it owned at the stored value. -/
theorem wp_store_all {cs : CoreSpace} {s : Shape} {e : EltTy} (m : Memref sig .tc cs s e) {off : Fin s.rank → Nat}
    (h0 : off = fun _ => 0) (inb : ∀ a, off a + s.size a ≤ s.size a) {w : s.Idx → Elt F e}
    {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    {α : Type} {k : PUnit → Prog (TpuEff nD τ sig (Elt F) Λ₀ .tc) α} {X : s.Idx → Elt F e} {Q : α → sProp 𝕄} :
    (owns (c : Thread nD τ) m fullShare X : sProp 𝕄)
      ⊢ iprop((owns (c : Thread nD τ) m fullShare w -∗ wp frame (wpE (defs₀ (F := F)) 𝒱₀ c none) Set.univ (k ⟨⟩) Q)
        -∗ wp frame (wpE (defs₀ (F := F)) 𝒱₀ c none) Set.univ (.op (.store m (Rect.unit (s := s) off s.size inb) w Finset.univ hx hm) k) Q) := by
  unfold owns
  iintro ⟨%f, %hf, H⟩ Hk
  iapply (wp_store 𝒱₀ (c : Thread nD τ) none Set.univ (m := m) (r := Rect.unit (s := s) off s.size inb) (w := w) (Mk := Finset.univ) (S := m.view.set) (f := f)
    ((View.set_slice m.view (Rect.unit (s := s) off s.size inb)).trans_subset (m.view.setOn_subset_set _))) $$ H
  iintro H
  iapply Hk
  iexists _
  isplitr; swap; · iexact H
  ipureintro
  subst h0
  funext y
  refine Eq.trans ?_ (View.read_slice_write_emb (v := m.view) (Rect.whole s) f w (Finset.mem_univ y))
  rw [Rect.emb_whole_apply]
  rfl

/-! ## The body -/

theorem zeros2 : (![0, 0] : Fin 2 → ℕ) = fun _ => 0 := by funext a; fin_cases a <;> rfl

/-- What the body leaves of the first result's piece, and of the second's. -/
abbrev apBlock (X : Vec F S512x4096 .f32) (A : Vec F S1x8 .f32) (Mk : Vec F S1x4096 .i32) (E : Vec F S4096x1 .f32) : Vec F S512x8 .f32 :=
  k1_pay1 (k1_pay4 X Mk E) (k1_pay5 A A)
abbrev pvBlock (X : Vec F S512x4096 .f32) : Vec F S512x1 .f32 := k1_pay3 X

/-- The body, from its six buffers, leaves the four it reads as they were and the two results' pieces in the others. -/
theorem wp_body (i : grid1.Coords) (m1 : Memref sig .tc .vmem S512x4096 .f32) (h1 : m1.IsWhole) (m2 : Memref sig .tc .vmem S1x8 .f32) (h2 : m2.IsWhole)
    (m3 : Memref sig .tc .vmem S1x4096 .i32) (h3 : m3.IsWhole) (m4 : Memref sig .tc .vmem S4096x1 .f32) (h4 : m4.IsWhole)
    (m5 : Memref sig .tc .vmem S512x8 .f32) (h5 : m5.IsWhole) (m6 : Memref sig .tc .vmem S512x1 .f32) (h6 : m6.IsWhole)
    (X : Vec F S512x4096 .f32) (A : Vec F S1x8 .f32) (Mk : Vec F S1x4096 .i32) (E : Vec F S4096x1 .f32) (Y : Vec F S512x8 .f32) (Z : Vec F S512x1 .f32)
    (Q : PUnit → sProp 𝕄) :
    iprop(owns (c : Thread nD τ) m1 fullShare X ∗ owns (c : Thread nD τ) m2 fullShare A ∗ owns (c : Thread nD τ) m3 fullShare Mk ∗ owns (c : Thread nD τ) m4 fullShare E
        ∗ owns (c : Thread nD τ) m5 fullShare Y ∗ owns (c : Thread nD τ) m6 fullShare Z
        ∗ (iprop(owns (c : Thread nD τ) m1 fullShare X ∗ owns (c : Thread nD τ) m2 fullShare A ∗ owns (c : Thread nD τ) m3 fullShare Mk ∗ owns (c : Thread nD τ) m4 fullShare E
          ∗ owns (c : Thread nD τ) m5 fullShare (apBlock X A Mk E) ∗ owns (c : Thread nD τ) m6 fullShare (pvBlock X)) -∗ Q ⟨⟩))
      ⊢ wp frame (wpE (defs₀ (F := F)) 𝒱₀ c none) Set.univ (cc1__tc_body i m1 h1 m2 h2 m3 h3 m4 h4 m5 h5 m6 h6) Q := by
  rw [cc1__tc_body_eq_skeleton]; unfold cc1__tc_body_skel
  rw [k1_part1_eq_skeleton]; unfold k1_part1_skel
  simp only [Prog.lift, Prog.bind_op, Prog.bind_ret, Prog.pure_eq_ret]
  iintro ⟨H1, H2, H3, H4, H5, H6, Hk⟩
  iapply (wp_load_all c m1 zeros2 inb_S512x4096_S512x4096_0_0) $$ H1; iintro H1
  iapply (wp_load_all c m3 zeros2 inb_S1x4096_S1x4096_0_0) $$ H3; iintro H3
  iapply (wp_load_all c m4 zeros2 inb_S4096x1_S4096x1_0_0) $$ H4; iintro H4
  iapply (wp_load_all c m6 zeros2 inb_S512x1_S512x1_0_0) $$ H6; iintro H6
  iapply (wp_store_all c m6 zeros2 inb_S512x1_S512x1_0_0 (w := k1_pay3 X)) $$ H6; iintro H6
  iapply (wp_load_all c m2 zeros2 inb_S1x8_S1x8_0_0) $$ H2; iintro H2
  iapply (wp_load_all c m2 zeros2 inb_S1x8_S1x8_0_0) $$ H2; iintro H2
  iapply (wp_load_all c m5 zeros2 inb_S512x8_S512x8_0_0) $$ H5; iintro H5
  iapply (wp_store_all c m5 zeros2 inb_S512x8_S512x8_0_0 (w := apBlock X A Mk E)) $$ H5; iintro H5
  rw [wp_ret]; imodintro
  iapply Hk
  isplitl [H1]; · iexact H1
  isplitl [H2]; · iexact H2
  isplitl [H3]; · iexact H3
  isplitl [H4]; · iexact H4
  isplitl [H5]; · iexact H5
  iexact H6

end Cert.Proof.Sc

end
-- ==== Proof.Region.lean ====
/-
  The TensorCore kernel's pipeline: its thirty points over the six arrays, from the arrays' contents at the call to the
  two results' contents after it.
-/
module

public import proofs.«01_k».proof.Proof.Body
public import Idealize.ShloMosaic.Lib.Pipeline.RegionArrays
public import Idealize.ShloMosaic.Lib.Pipeline.RegionsLoop
public import Idealize.ShloMosaic.Lib.ValueIdxCore

@[expose] public section

noncomputable section

namespace Cert.Proof.Sc

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MM F

/-- The one way to run the pipeline: it prefetches no table. -/
abbrev adm : (p : Fin 1) → (pcfgs (F := F) p).Adm := fun p => (cfgs p).toPCfg_adm

/-! ## The proof data at the call's contents -/

-- the arrays' contents at the call, and the level below which the waits recorded before it lie
variable (W : (c : Dev nD) → (b : Ref sig .tc) → Buf (Elt F) ((c : Thread nD τ).loc b)) (B : ℕ)

/-- The blocks of the four arrays read, at point `t`. -/
abbrev xBlk (c : Dev nD) (t : Fin cfg1.N) : Vec F S512x4096 .f32 := ((cfg1.win 0).blk t).view.read (Elt F) (W c main_v17)
abbrev aBlk (c : Dev nD) (t : Fin cfg1.N) : Vec F S1x8 .f32 := ((cfg1.win 1).blk t).view.read (Elt F) (W c main_v2)
abbrev mBlk (c : Dev nD) (t : Fin cfg1.N) : Vec F S1x4096 .i32 := ((cfg1.win 2).blk t).view.read (Elt F) (W c main_v6)
abbrev eBlk (c : Dev nD) (t : Fin cfg1.N) : Vec F S4096x1 .f32 := ((cfg1.win 3).blk t).view.read (Elt F) (W c main_v13)

/-- The pipeline's proof data: the arrays at the call's contents; the blocks read are left as fetched, the two others at
    the body's pieces; nothing owed; the waits recorded before lie at level `B` or below. -/
def dat (c : Dev nD) : Dat τ (Elt F) (HIx 1) ℕ UU ℕ cfg1 c where
  A w := W c (Pipeline.arrRef spec1 w)
  after w t := match w with
    | ⟨0, _⟩ => xBlk W c t
    | ⟨1, _⟩ => aBlk W c t
    | ⟨2, _⟩ => mBlk W c t
    | ⟨3, _⟩ => eBlk W c t
    | ⟨4, _⟩ => apBlock (xBlk W c t) (aBlk W c t) (mBlk W c t) (eBlk W c t)
    | ⟨5, _⟩ => pvBlock (xBlk W c t)
  Φ _ := BI.emp
  q _ := fullShare
  owed _ := 0
  recorded _ := {p | (K (F := F)).lev (SparseCore.T c, p.1) p.2 ≤ B}

def pdats : (p : Fin 1) → (c : Dev nD) → Dat τ (Elt F) (HIx 1) ℕ UU ℕ (Pipeline.pin (pcfgs (F := F)) adm p) c
  | ⟨0, _⟩ => fun c => dat W B c

theorem before0 (c : Dev nD) (t : Fin cfg1.N) (d) : (dat W B c).before 0 t d = xBlk W c t :=
  (dat W B c).before_in_eq_fetched 0 rfl (fun _ => rfl) (fun _ _ _ => rfl) (fun _ => by dsimp only [dat]; rfl) t d
theorem before1 (c : Dev nD) (t : Fin cfg1.N) (d) : (dat W B c).before 1 t d = aBlk W c t :=
  (dat W B c).before_in_eq_fetched 1 rfl (fun _ => rfl) (fun _ _ _ => rfl) (fun _ => by dsimp only [dat]; rfl) t d
theorem before2 (c : Dev nD) (t : Fin cfg1.N) (d) : (dat W B c).before 2 t d = mBlk W c t :=
  (dat W B c).before_in_eq_fetched 2 rfl (fun _ => rfl) (fun _ _ _ => rfl) (fun _ => by dsimp only [dat]; rfl) t d
theorem before3 (c : Dev nD) (t : Fin cfg1.N) (d) : (dat W B c).before 3 t d = eBlk W c t :=
  (dat W B c).before_in_eq_fetched 3 rfl (fun _ => rfl) (fun _ _ _ => rfl) (fun _ => by dsimp only [dat]; rfl) t d

/-- The body's triple at every point, between the buffers as the pipeline hands them and as it takes them back. -/
theorem body_obligation (c : Dev nD) : BodyObligation (dat W B c) (defs₀ (F := F)) 𝒱₀ none Set.univ := fun t => by
  rw [bigSep_W1, bigSep_W1]
  simp only [before0, before1, before2, before3]
  rw [show (dat W B c).owesAt none t.succ = (dat W B c).owesAt none t.castSucc from rfl,
    show (dat W B c).Φ t.succ = (dat W B c).Φ t.castSucc from rfl]
  iintro ⟨HΦ, Howes, ⟨%d0, H0⟩, ⟨%d1, H1⟩, ⟨%d2, H2⟩, ⟨%d3, H3⟩, ⟨%d4, H4⟩, ⟨%d5, H5⟩⟩
  iapply (wp_body c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (st1_5 t) (hstage1_5 ((cfg1.slots t 5).cast nbuf1_5))
    (xBlk W c t) (aBlk W c t) (mBlk W c t) (eBlk W c t) _ _ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  dsimp only [dat]
  isplitl [H0]; · iexact H0
  isplitl [H1]; · iexact H1
  isplitl [H2]; · iexact H2
  isplitl [H3]; · iexact H3
  isplitl [H4]; · iexact H4
  iexact H5

/-! ## The two results' arrays after the last point -/

/-- The 512 rows of point `t`. -/
def rowsOf (X : Vec F S16384x4096 .f32) (t : ℕ) : Vec F S512x4096 .f32 :=
  fun y => X (ix2 ⟨(512 * t + (y 0).val) % 16384, Nat.mod_lt _ (by decide)⟩ (y 1))

/-- The first 15360 rows of the two results, block by block. -/
def apTop (X : Vec F S16384x4096 .f32) (A : Vec F S1x8 .f32) (Mk : Vec F S1x4096 .i32) (E : Vec F S4096x1 .f32) : Vec F S15360x8 .f32 :=
  fun x => apBlock (rowsOf X ((x 0).val / 512)) A Mk E (ix2 ⟨(x 0).val % 512, Nat.mod_lt _ (by decide)⟩ (x 1))
def pvTop (X : Vec F S16384x4096 .f32) : Vec F S15360x1 .f32 :=
  fun x => pvBlock (rowsOf X ((x 0).val / 512)) (ix2 ⟨(x 0).val % 512, Nat.mod_lt _ (by decide)⟩ (x 1))

theorem coord (t : Fin grid1.N) : (grid1.coords t 0).val = t.val := by revert t; decide +kernel

theorem index0 (t : Fin grid1.N) : cc1_transform_0 (grid1.coords t) = ![t.val, 0] := by
  have h := coord t
  have ht : t.val < 30 := lt_of_lt_of_eq t.isLt N_1
  unfold cc1_transform_0
  rw [h]
  show ![(BitVec.ofNat 32 t.val).toNat, 0] = _
  rw [BitVec.toNat_ofNat, Nat.mod_eq_of_lt (by omega)]
theorem index4 (t : Fin grid1.N) : cc1_transform_4 (grid1.coords t) = ![t.val, 0] := index0 t
theorem index5 (t : Fin grid1.N) : cc1_transform_5 (grid1.coords t) = ![t.val, 0] := index0 t

theorem xBlk_eq (c : Dev nD) (t : Fin cfg1.N) : xBlk W c t = rowsOf (W c main_v17) t.val := by
  have ht : t.val < 30 := lt_of_lt_of_eq t.isLt N_1
  funext y
  have hy : (y 0).val < 512 := (y 0).isLt
  show (W c main_v17) ((win1_0.rect t).emb y) = (W c main_v17) _
  congr 1
  funext a
  apply Fin.ext
  rw [win1_0.rect_emb_val t y a]
  show cc1_transform_0 (grid1.coords t) a * _ + _ = _
  rw [index0]
  fin_cases a
  · show t.val * 512 + (y 0).val = (512 * t.val + (y 0).val) % 16384
    omega
  · show 0 * 4096 + (y 1).val = (y 1).val
    omega

theorem aBlk_eq (c : Dev nD) (t : Fin cfg1.N) : aBlk W c t = W c main_v2 := by
  funext y
  show (W c main_v2) ((win1_1.rect t).emb y) = (W c main_v2) y
  congr 1
  funext a
  exact Fin.ext (win1_1.rect_emb_val_of_index_zero t a (by fin_cases a <;> rfl) y)
theorem mBlk_eq (c : Dev nD) (t : Fin cfg1.N) : mBlk W c t = W c main_v6 := by
  funext y
  show (W c main_v6) ((win1_2.rect t).emb y) = (W c main_v6) y
  congr 1
  funext a
  exact Fin.ext (win1_2.rect_emb_val_of_index_zero t a (by fin_cases a <;> rfl) y)
theorem eBlk_eq (c : Dev nD) (t : Fin cfg1.N) : eBlk W c t = W c main_v13 := by
  funext y
  show (W c main_v13) ((win1_3.rect t).emb y) = (W c main_v13) y
  congr 1
  funext a
  exact Fin.ext (win1_3.rect_emb_val_of_index_zero t a (by fin_cases a <;> rfl) y)

/-- Where element `y` of point `t`'s block lies in each result's array. -/
theorem emb4 (t : Fin cfg1.N) (y : S512x8.Idx) :
    (win1_4.rect t).emb y = (ix2 ⟨512 * t.val + (y 0).val, by have ht : t.val < 30 := lt_of_lt_of_eq t.isLt N_1; have hy : (y 0).val < 512 := (y 0).isLt; omega⟩ (y 1) : S15360x8.Idx) := by
  funext a
  apply Fin.ext
  rw [win1_4.rect_emb_val t y a]
  show cc1_transform_4 (grid1.coords t) a * _ + _ = _
  rw [index4]
  fin_cases a
  · show t.val * 512 + (y 0).val = 512 * t.val + (y 0).val
    omega
  · show 0 * 8 + (y 1).val = (y 1).val
    omega
theorem emb5 (t : Fin cfg1.N) (y : S512x1.Idx) :
    (win1_5.rect t).emb y = (ix2 ⟨512 * t.val + (y 0).val, by have ht : t.val < 30 := lt_of_lt_of_eq t.isLt N_1; have hy : (y 0).val < 512 := (y 0).isLt; omega⟩ (y 1) : S15360x1.Idx) := by
  funext a
  apply Fin.ext
  rw [win1_5.rect_emb_val t y a]
  show cc1_transform_5 (grid1.coords t) a * _ + _ = _
  rw [index5]
  fin_cases a
  · show t.val * 512 + (y 0).val = 512 * t.val + (y 0).val
    omega
  · show 0 * 1 + (y 1).val = (y 1).val
    omega

theorem final4 (c : Dev nD) : (dat W B c).arrAt 4 cfg1.N = apTop (W c main_v17) (W c main_v2) (W c main_v6) (W c main_v13) := by
  refine (dat W B c).arrAt_eq_of_cover 4 (apTop (W c main_v17) (W c main_v2) (W c main_v6) (W c main_v13)) (fun t _ => ?_) (fun i => ?_)
  · show apBlock (xBlk W c t) (aBlk W c t) (mBlk W c t) (eBlk W c t) = _
    rw [xBlk_eq, aBlk_eq, mBlk_eq, eBlk_eq]
    funext y
    have hy : (y 0).val < 512 := (y 0).isLt
    show _ = apTop (W c main_v17) (W c main_v2) (W c main_v6) (W c main_v13) ((win1_4.rect t).emb y)
    rw [emb4]
    show apBlock (rowsOf (W c main_v17) t.val) _ _ _ y = apBlock (rowsOf (W c main_v17) ((512 * t.val + (y 0).val) / 512)) _ _ _ (ix2 ⟨(512 * t.val + (y 0).val) % 512, _⟩ (y 1))
    rw [show (512 * t.val + (y 0).val) / 512 = t.val by omega]
    congr 1
    funext a
    fin_cases a
    · exact Fin.ext (show (y 0).val = (512 * t.val + (y 0).val) % 512 by omega)
    · rfl
  · have hi : (i 0).val < 15360 := (i 0).isLt
    have ht : (i 0).val / 512 < cfg1.N := by rw [show cfg1.N = 30 from N_1]; omega
    refine ⟨⟨(i 0).val / 512, ht⟩, flush1_4 _, ?_⟩
    have hemb : (win1_4.rect ⟨(i 0).val / 512, ht⟩).emb (ix2 ⟨(i 0).val % 512, Nat.mod_lt _ (by decide)⟩ (i 1) : S512x8.Idx) = i := by
      rw [emb4]
      funext a
      fin_cases a
      · exact Fin.ext (show 512 * ((i 0).val / 512) + (i 0).val % 512 = (i 0).val by omega)
      · rfl
    have hmem : (win1_4.rect ⟨(i 0).val / 512, ht⟩).emb (ix2 ⟨(i 0).val % 512, Nat.mod_lt _ (by decide)⟩ (i 1) : S512x8.Idx) ∈ ((View.whole main_v18_0).slice (win1_4.rect ⟨(i 0).val / 512, ht⟩)).set :=
      ((View.whole main_v18_0).slice (win1_4.rect ⟨(i 0).val / 512, ht⟩)).emb_mem_set (ix2 ⟨(i 0).val % 512, Nat.mod_lt _ (by decide)⟩ (i 1) : S512x8.Idx)
    rw [hemb] at hmem
    exact hmem

theorem final5 (c : Dev nD) : (dat W B c).arrAt 5 cfg1.N = pvTop (W c main_v17) := by
  refine (dat W B c).arrAt_eq_of_cover 5 (pvTop (W c main_v17)) (fun t _ => ?_) (fun i => ?_)
  · show pvBlock (xBlk W c t) = _
    rw [xBlk_eq]
    funext y
    have hy : (y 0).val < 512 := (y 0).isLt
    show _ = pvTop (W c main_v17) ((win1_5.rect t).emb y)
    rw [emb5]
    show pvBlock (rowsOf (W c main_v17) t.val) y = pvBlock (rowsOf (W c main_v17) ((512 * t.val + (y 0).val) / 512)) (ix2 ⟨(512 * t.val + (y 0).val) % 512, _⟩ (y 1))
    rw [show (512 * t.val + (y 0).val) / 512 = t.val by omega]
    congr 1
    funext a
    fin_cases a
    · exact Fin.ext (show (y 0).val = (512 * t.val + (y 0).val) % 512 by omega)
    · rfl
  · have hi : (i 0).val < 15360 := (i 0).isLt
    have ht : (i 0).val / 512 < cfg1.N := by rw [show cfg1.N = 30 from N_1]; omega
    refine ⟨⟨(i 0).val / 512, ht⟩, flush1_5 _, ?_⟩
    have hemb : (win1_5.rect ⟨(i 0).val / 512, ht⟩).emb (ix2 ⟨(i 0).val % 512, Nat.mod_lt _ (by decide)⟩ (i 1) : S512x1.Idx) = i := by
      rw [emb5]
      funext a
      fin_cases a
      · exact Fin.ext (show 512 * ((i 0).val / 512) + (i 0).val % 512 = (i 0).val by omega)
      · rfl
    have hmem : (win1_5.rect ⟨(i 0).val / 512, ht⟩).emb (ix2 ⟨(i 0).val % 512, Nat.mod_lt _ (by decide)⟩ (i 1) : S512x1.Idx) ∈ ((View.whole main_v18_1).slice (win1_5.rect ⟨(i 0).val / 512, ht⟩)).set :=
      ((View.whole main_v18_1).slice (win1_5.rect ⟨(i 0).val / 512, ht⟩)).emb_mem_set (ix2 ⟨(i 0).val % 512, Nat.mod_lt _ (by decide)⟩ (i 1) : S512x1.Idx)
    rw [hemb] at hmem
    exact hmem

/-! ## The pipeline over the unscoped buffers -/

-- the arrays' contents after the call: the two results' at their final contents, every other buffer's as before
variable (W' : (c : Dev nD) → (b : Ref sig .tc) → Buf (Elt F) ((c : Thread nD τ).loc b))

set_option backward.isDefEq.respectTransparency.types false in
/-- The pipeline as a step of `@main` from every unscoped buffer at `W` to every one at `W'`: nothing is owed, and the waits
    recorded stay at level `B` or below, those of the pipeline's own copies lying at level 0. -/
def reg (h4 : ∀ c, W' c main_v18_0 = apTop (W c main_v17) (W c main_v2) (W c main_v6) (W c main_v13))
    (h5 : ∀ c, W' c main_v18_1 = pvTop (W c main_v17))
    (hne : ∀ c (b : Ref sig .tc), b ≠ main_v18_0 → b ≠ main_v18_1 → W' c b = W c b) :
    Pipeline.RegionSeg (pcfgs (F := F)) adm (pdats W B) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation W B c).loose
  hwaits := Pipeline.hwaits_of_owed_zero _ _ _ _ (K (F := F)).L (K (F := F)).lev 0 fun _ _ => rfl
  pre c := iprop(unscopedBufs c (W c) ∗ ∃ R, ⌜(K (F := F)).WBelow (SparseCore.T c) R B⌝ ∗ owes (c : Thread nD τ) (0 : CellTallies nD τ sig (HIx 1)) R)
  post c := iprop(unscopedBufs c (W' c) ∗ ∃ R, ⌜(K (F := F)).WBelow (SparseCore.T c) R B⌝ ∗ owes (c : Thread nD τ) (0 : CellTallies nD τ sig (HIx 1)) R)
  X _ := BI.emp
  Y _ := BI.emp
  Z c := Pipeline.unscopedRest (Ix := HIx 1) (Name := ℕ) (U := UU) (Lvl := ℕ) spec1 c (W c)
  hentry c := by
    rw [Pipeline.ownSems0_none]
    have hsplit := Pipeline.arrays_of_unscopedBufs (p := 0) (pcfgs (F := F)) adm (pdats W B) (launch1).win (launch1).arr_whole c
      ((pdats W B 0 c).share_full fun _ => rfl) (W c) fun _ => rfl
    iintro ⟨⟨Hub, %R, %hR, HO⟩, -, -⟩
    ihave H := hsplit $$ Hub
    icases H with ⟨Ha, Hrest⟩
    imodintro
    isplitl [Ha]; · iexact Ha
    isplitr; · rw [Pipeline.prefHeld_of_none _ rfl]; iempintro
    isplitl [HO]
    · unfold Pipeline.Dat.owesAt Pipeline.owesWithin
      iexists R
      isplitr; · ipureintro; exact fun p hp => Or.inl (hR p hp)
      iexact HO
    isplitr; · iempintro
    iexact Hrest
  hin c := by
    rw [show (pdats W B 0 c).Φ 0 = BI.emp from rfl]
    iintro -; iempintro
  hout c := by
    rw [Pipeline.ownSems0_none, show (pdats W B 0 c).Φ (Fin.last _) = BI.emp from rfl,
      show Pipeline.scopedRest (Pipeline.pin (pcfgs (F := F)) adm 0).spec c = BI.emp from scopedRest1_eq c]
    iintro -
    isplitr; · iempintro
    isplitr; · iempintro
    iempintro
  hexit c := by
    have hjoin := Pipeline.unscopedBufs_of_arrays (p := 0) (pcfgs (F := F)) adm (Ix := HIx 1) (Name := ℕ) (U := UU) (Lvl := ℕ) (launch1).win (launch1).arr_whole c
      (pdats W B) ((pdats W B 0 c).share_full fun _ => rfl) (W c) (W' c) ((pdats W B 0 c).arrAt · cfg1.N)
      (fun w => by
        match w with
        | ⟨0, _⟩ => exact ((pdats W B 0 c).arrAt_in 0 rfl _).trans (hne c main_v17 (by decide) (by decide)).symm
        | ⟨1, _⟩ => exact ((pdats W B 0 c).arrAt_in 1 rfl _).trans (hne c main_v2 (by decide) (by decide)).symm
        | ⟨2, _⟩ => exact ((pdats W B 0 c).arrAt_in 2 rfl _).trans (hne c main_v6 (by decide) (by decide)).symm
        | ⟨3, _⟩ => exact ((pdats W B 0 c).arrAt_in 3 rfl _).trans (hne c main_v13 (by decide) (by decide)).symm
        | ⟨4, _⟩ => exact (final4 W B c).trans (h4 c).symm
        | ⟨5, _⟩ => exact (final5 W B c).trans (h5 c).symm)
      (fun b hb => hne c b (fun h => hb (h ▸ Finset.mem_image.mpr ⟨4, Finset.mem_univ _, rfl⟩))
        (fun h => hb (h ▸ Finset.mem_image.mpr ⟨5, Finset.mem_univ _, rfl⟩)))
    unfold Pipeline.Dat.owesAt Pipeline.owesWithin
    iintro ⟨Ha, ⟨%R, %hR, HO⟩, -, Hrest⟩
    imodintro
    isplitl [Ha Hrest]
    · iapply hjoin; isplitl [Ha] <;> iassumption
    iexists R
    isplitr
    · ipureintro
      intro p hp
      rcases hR hp with h | ⟨w, s, rfl⟩
      · exact h
      · exact Nat.zero_le _
    iexact HO

end Cert.Proof.Sc

end
-- ==== Proof.Main.lean ====
/-
  `@main` on the TensorCore: its host operations, the SparseCore call, the pipeline, and the operations after it; the
  contents of every buffer along the way; and the launch.
-/
module

public import proofs.«01_k».proof.Proof.Launch
public import proofs.«01_k».proof.Proof.Region
public import Idealize.ShloMosaic.Lib.Pipeline.Frame
public import Idealize.ShloMosaic.Lib.SparseCore.Quiescent

@[expose] public section

noncomputable section

namespace Cert.Proof.Sc

open Cert.KernelIdeal Cert.KernelIdeal.Gen
open Idealize.ShloMosaic Idealize.ShloMosaic.TcCoe Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs unscopedBufs_held sub_ucRefs)

variable {F : FTy → Type} [FloatOps F]

local notation "𝕄" => MM F

/-- A TensorCore's buffer as a buffer of its device. -/
abbrev at' (b : Ref sig .tc) : DevRef τ sig := Proc.devRef .tc b

/-! ## The host operations -/

/-- Before the SparseCore call: the two small arguments in both kernels' layouts, the unit diagonal, the last rows of `x`. -/
def ops1 : List (HloOp τ sig (Elt F)) :=
  [ StableHlo.binary main_arg1 main_arg1 main_v0 ((fun a b => concatenate S16 0 [⟨S8, a⟩, ⟨S8, b⟩] concatenates_S8_S8_S16_d0) : (⟨S8, .f32⟩ : BufTy).Contents (Elt F) → (⟨S8, .f32⟩ : BufTy).Contents (Elt F) → (⟨S16, .f32⟩ : BufTy).Contents (Elt F)),
    StableHlo.unary main_arg2 main_v1 ((extui 32 · natLt_1_32) : (⟨S64, .i1⟩ : BufTy).Contents (Elt F) → (⟨S64, .i32⟩ : BufTy).Contents (Elt F)),
    StableHlo.reshape main_arg1 main_v2 (rfl : (.f32 : EltTy) = .f32) shapeCasts_S8_S1x8,
    StableHlo.unary main_arg2 main_v3 ((extui 32 · natLt_1_32) : (⟨S64, .i1⟩ : BufTy).Contents (Elt F) → (⟨S64, .i32⟩ : BufTy).Contents (Elt F)),
    StableHlo.unary main_v3 main_v4 (broadcastInDim S64x64 ![0] bcast_S64_S64x64_0 : (⟨S64, .i32⟩ : BufTy).Contents (Elt F) → (⟨S64x64, .i32⟩ : BufTy).Contents (Elt F)),
    StableHlo.reshape main_v4 main_v5 (rfl : (.i32 : EltTy) = .i32) shapeCasts_S64x64_S4096,
    StableHlo.reshape main_v5 main_v6 (rfl : (.i32 : EltTy) = .i32) shapeCasts_S4096_S1x4096,
    StableHlo.nullary main_v7 (iotaInDim S64x64 32 0),
    StableHlo.nullary main_v8 (iotaInDim S64x64 32 1),
    StableHlo.nullary main_c (constantI S_ 32 0#32),
    StableHlo.unary main_c main_v9 (broadcastInDim S64x64 ![] bcast_S_S64x64 : (⟨S_, .i32⟩ : BufTy).Contents (Elt F) → (⟨S64x64, .i32⟩ : BufTy).Contents (Elt F)),
    StableHlo.binary main_v7 main_v9 main_v10 (addi : (⟨S64x64, .i32⟩ : BufTy).Contents (Elt F) → (⟨S64x64, .i32⟩ : BufTy).Contents (Elt F) → (⟨S64x64, .i32⟩ : BufTy).Contents (Elt F)),
    StableHlo.binary main_v10 main_v8 main_v11 (cmpi .eq : (⟨S64x64, .i32⟩ : BufTy).Contents (Elt F) → (⟨S64x64, .i32⟩ : BufTy).Contents (Elt F) → (⟨S64x64, .i1⟩ : BufTy).Contents (Elt F)),
    StableHlo.unary main_v11 main_v12 (uitofp .f32 : (⟨S64x64, .i1⟩ : BufTy).Contents (Elt F) → (⟨S64x64, .f32⟩ : BufTy).Contents (Elt F)),
    StableHlo.reshape main_v12 main_v13 (rfl : (.f32 : EltTy) = .f32) shapeCasts_S64x64_S4096x1,
    StableHlo.unary main_arg0 main_v14 ((extractStridedSlice S1024x64x64 ![15360, 0, 0] · slices_S16384x64x64_S1024x64x64_15360_0_0) : (⟨S16384x64x64, .f32⟩ : BufTy).Contents (Elt F) → (⟨S1024x64x64, .f32⟩ : BufTy).Contents (Elt F)),
    StableHlo.reshape main_v14 main_v15 (rfl : (.f32 : EltTy) = .f32) shapeCasts_S1024x64x64_S262144x16 ]

/-- Between the two kernels: `x` as rows. -/
def ops2 : List (HloOp τ sig (Elt F)) :=
  [ StableHlo.reshape main_arg0 main_v17 (rfl : (.f32 : EltTy) = .f32) shapeCasts_S16384x64x64_S16384x4096 ]

/-- After both: each result joined from the two kernels' parts. -/
def ops3 : List (HloOp τ sig (Elt F)) :=
  [ StableHlo.reshape main_v16_0 main_v19 (rfl : (.f32 : EltTy) = .f32) shapeCasts_S8192_S1024x8,
    StableHlo.binary main_v18_0 main_v19 main_v20 ((fun a b => concatenate S16384x8 0 [⟨S15360x8, a⟩, ⟨S1024x8, b⟩] concatenates_S15360x8_S1024x8_S16384x8_d0) : (⟨S15360x8, .f32⟩ : BufTy).Contents (Elt F) → (⟨S1024x8, .f32⟩ : BufTy).Contents (Elt F) → (⟨S16384x8, .f32⟩ : BufTy).Contents (Elt F)),
    StableHlo.reshape main_v18_1 main_v21 (rfl : (.f32 : EltTy) = .f32) shapeCasts_S15360x1_S15360,
    StableHlo.binary main_v21 main_v16_1 main_v22 ((fun a b => concatenate S16384 0 [⟨S15360, a⟩, ⟨S1024, b⟩] concatenates_S15360_S1024_S16384_d0) : (⟨S15360, .f32⟩ : BufTy).Contents (Elt F) → (⟨S1024, .f32⟩ : BufTy).Contents (Elt F) → (⟨S16384, .f32⟩ : BufTy).Contents (Elt F)) ]

theorem main_eq (d : Dev nD) : main (F := F) d
    = (seq ops1 >>= fun _ => (sc (F := F)).run d 0 >>= fun _ => seq ops2 >>= fun _ =>
        Prog.lift (.customCall (SparseCore.inner (Pipeline.entry 0)) ()) >>= fun _ => seq ops3 >>= fun _ => pure ⟨⟩) := by
  rw [seq_bind_seqK, funext fun _ => seq_bind_seqK ops2 _, funext fun _ => seq_bind_seqK ops3 _]
  rfl

theorem ops1_sub : ∀ op ∈ (ops1 (F := F)), op.bufs ⊆ ucRefs τ sig := by
  unfold ops1; simp [sub_ucRefs]
theorem ops2_sub : ∀ op ∈ (ops2 (F := F)), op.bufs ⊆ ucRefs τ sig := by
  unfold ops2; simp [sub_ucRefs]
theorem ops3_sub : ∀ op ∈ (ops3 (F := F)), op.bufs ⊆ ucRefs τ sig := by
  unfold ops3; simp [sub_ucRefs]
theorem ops1_fresh : ∀ op ∈ (ops1 (F := F)), op.fresh = ∅ := List.forall_iff_forall_mem.mp (forall_fresh_of_map rfl)
theorem ops2_fresh : ∀ op ∈ (ops2 (F := F)), op.fresh = ∅ := List.forall_iff_forall_mem.mp (forall_fresh_of_map rfl)
theorem ops3_fresh : ∀ op ∈ (ops3 (F := F)), op.fresh = ∅ := List.forall_iff_forall_mem.mp (forall_fresh_of_map rfl)

/-! ## The contents of the buffers along the way -/

variable (m : (ℓ : Loc nD τ sig) → Buf (Elt F) ℓ) (ρ : Dev nD → PrngReg)

/-- At the SparseCore call. -/
def W1 (d : Dev nD) : Valuation τ sig (Elt F) := after ops1 (launchContents m d)
/-- What the SparseCore kernel reads: the last rows of `x`, the activations twice over, the mask. -/
abbrev scX (d : Dev nD) : Vec F S262144x16 .f32 := W1 m d (at' main_v15)
abbrev scA (d : Dev nD) : Vec F S16 .f32 := W1 m d (at' main_v0)
abbrev scM (d : Dev nD) : Vec F S64 .i32 := W1 m d (at' main_v1)
/-- After it: its two results in place. -/
def W2 (d : Dev nD) : Valuation τ sig (Elt F) :=
  Function.update (Function.update (W1 m d) (at' main_v16_0) (apOut (scX m d) (scA m d) (scM m d))) (at' main_v16_1) (pvOut (scX m d))
/-- At the pipeline. -/
def W3 (d : Dev nD) : Valuation τ sig (Elt F) := after ops2 (W2 m d)
/-- After it: its two results in place. -/
def W4 (d : Dev nD) : Valuation τ sig (Elt F) :=
  Function.update (Function.update (W3 m d) (at' main_v18_0)
    (apTop (W3 m d (at' main_v17)) (W3 m d (at' main_v2)) (W3 m d (at' main_v6)) (W3 m d (at' main_v13))))
    (at' main_v18_1) (pvTop (W3 m d (at' main_v17)))
/-- At the end. -/
def W5 (d : Dev nD) : Valuation τ sig (Elt F) := after ops3 (W4 m d)

/-! ## The SparseCore call's arrays out of the buffers held -/

/-- The call's five arrays. -/
abbrev callRefs : Finset (DevRef τ sig) := {at' main_v15, at' main_v0, at' main_v1, at' main_v16_0, at' main_v16_1}

theorem callRefs_sub : callRefs ⊆ ucRefs τ sig := by
  intro b hb
  simp only [callRefs, Finset.mem_insert, Finset.mem_singleton] at hb
  rcases hb with rfl | rfl | rfl | rfl | rfl <;> exact Finset.mem_filter.mpr ⟨devRef_mem_tcRefs _, by decide⟩

theorem held_call (d : Dev nD) (W : Valuation τ sig (Elt F)) :
    (held (T d) callRefs W : sProp 𝕄)
      = iprop((xLoc d ↦{fullShare} W (at' main_v15)) ∗ (aLoc d ↦{fullShare} W (at' main_v0)) ∗ (mLoc d ↦{fullShare} W (at' main_v1))
          ∗ (apLoc d ↦{fullShare} W (at' main_v16_0)) ∗ pvLoc d ↦{fullShare} W (at' main_v16_1)) := by
  unfold held callRefs
  rw [SparseCore.bigSep_insert' (by decide), SparseCore.bigSep_insert' (by decide), SparseCore.bigSep_insert' (by decide),
    SparseCore.bigSep_insert' (by decide), bigSep_singleton]

theorem W2_of_ne (d : Dev nD) {b : DevRef τ sig} (h0 : b ≠ at' main_v16_0) (h1 : b ≠ at' main_v16_1) : W2 m d b = W1 m d b := by
  unfold W2; rw [Function.update_of_ne h1, Function.update_of_ne h0]
theorem W2_ap (d : Dev nD) : W2 m d (at' main_v16_0) = apOut (scX m d) (scA m d) (scM m d) := by
  unfold W2; rw [Function.update_of_ne (by decide), Function.update_self]
theorem W2_pv (d : Dev nD) : W2 m d (at' main_v16_1) = pvOut (scX m d) := by
  unfold W2; rw [Function.update_self]
theorem W4_of_ne (d : Dev nD) {b : DevRef τ sig} (h0 : b ≠ at' main_v18_0) (h1 : b ≠ at' main_v18_1) : W4 m d b = W3 m d b := by
  unfold W4; rw [Function.update_of_ne h1, Function.update_of_ne h0]
theorem W4_ap (d : Dev nD) : W4 m d (at' main_v18_0) = apTop (W3 m d (at' main_v17)) (W3 m d (at' main_v2)) (W3 m d (at' main_v6)) (W3 m d (at' main_v13)) := by
  unfold W4; rw [Function.update_of_ne (by decide), Function.update_self]
theorem W4_pv (d : Dev nD) : W4 m d (at' main_v18_1) = pvTop (W3 m d (at' main_v17)) := by
  unfold W4; rw [Function.update_self]

/-- Before the call: its arrays dealt to the two SparseCores, the rest aside. -/
theorem call_out (d : Dev nD) : (held (T d) (ucRefs τ sig) (W1 m d) : sProp 𝕄)
    ⊢ iprop((bigSep Finset.univ fun c : Fin 2 => stP d (scX m d) (scA m d) (scM m d) c) ∗ held (T d) (ucRefs τ sig \ callRefs) (W1 m d)) := by
  rw [held_sub_split (T d) callRefs_sub, held_call]
  iintro ⟨⟨Hx, Ha, Hm, Hap, Hpv⟩, Hrest⟩
  isplitr [Hrest]
  · iapply (hand_out d (scX m d) (scA m d) (scM m d))
    isplitl [Hx]; · iexact Hx
    isplitl [Ha]; · iexact Ha
    isplitl [Hm]; · iexact Hm
    isplitl [Hap]; · iexists _; iexact Hap
    iexists _; iexact Hpv
  iexact Hrest

/-- After the call: its arrays gathered, the results in place. -/
theorem call_in (d : Dev nD) : iprop((bigSep Finset.univ fun c : Fin 2 => dnP d (scX m d) (scA m d) (scM m d) c) ∗ held (T d) (ucRefs τ sig \ callRefs) (W1 m d))
    ⊢ (held (T d) (ucRefs τ sig) (W2 m d) : sProp 𝕄) := by
  rw [held_sub_split (T d) callRefs_sub (W2 m d), held_call, W2_ap, W2_pv, W2_of_ne m d (by decide) (by decide), W2_of_ne m d (by decide) (by decide),
    W2_of_ne m d (by decide) (by decide),
    held_congr (T d) (S := ucRefs τ sig \ callRefs) (V := W2 m d) (V' := W1 m d) fun b hb => W2_of_ne m d
      (fun h => (Finset.mem_sdiff.mp hb).2 (h ▸ by decide)) (fun h => (Finset.mem_sdiff.mp hb).2 (h ▸ by decide))]
  iintro ⟨Hdn, Hrest⟩
  isplitl [Hdn]
  · iapply (hand_in d (scX m d) (scA m d) (scM m d)); iexact Hdn
  iexact Hrest

/-! ## The launch element -/

/-- The pipeline's configuration, its (no) tables fixed. -/
abbrev pinned : (p : Fin 1) → Pipeline.Cfg sig Λ₀ := Pipeline.pin (pcfgs (F := F)) adm

def u₀ : UU := (initOf (K (F := F)).hsCells (K (F := F)).hsToks,
  (initOf (Pipeline.cells (pinned (F := F)) cellOf_inj) (Pipeline.launchToks (pinned (F := F)) cellOf_inj), 1))

/-- What the launch deals the pipeline on device `d`. -/
abbrev G (d : Dev nD) : sProp 𝕄 := iprop(Pipeline.cellsGhost (pinned (F := F)) EP 0 d ∗ Pipeline.toksInit (pinned (F := F)) EP 0 d)

/-- The payloads: the call's arrays at what `@main` computed. -/
abbrev PP : (K (F := F)).Pay (nD := nD) (Val := Elt F) (Name := ℕ) (U := UU) := P (scX m) (scA m) (scM m)

theorem hdeal : iprop((bigSep Finset.univ fun d : Dev nD => bigSep Finset.univ fun p => Pipeline.cellsGhost (pinned (F := F)) EP p d)
      ∗ bigSep Finset.univ fun d : Dev nD => bigSep Finset.univ fun p => Pipeline.toksInit (pinned (F := F)) EP p d)
    ⊢ (bigSep Finset.univ fun d : Dev nD => G (F := F) d : sProp 𝕄) := by
  rw [bigSep_sep']
  exact BI.sep_mono (Entails.of_eq (bigSep_congr fun d _ => bigSep_univ_of_subsingleton (0 : Fin 1)))
    (Entails.of_eq (bigSep_congr fun d _ => bigSep_univ_of_subsingleton (0 : Fin 1)))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  have hx : (bigSep Finset.univ fun thr : Thread nD τ => bigSep Finset.univ fun q : Fin 1 => (PP m).x q thr) = (iprop(emp) : sProp 𝕄) := by
    show (bigSep Finset.univ fun _ : Thread nD τ => bigSep Finset.univ fun _ : Fin 1 => (iprop(emp) : sProp 𝕄)) = _
    exact (bigSep_congr fun _ _ => bigSep_emp_const _).trans (bigSep_emp_const _)
  unfold u₀
  rw [hx]
  iintro Hu
  ihave H := (ownU_pair _ _) $$ Hu
  icases H with ⟨HH, HR⟩
  ihave H := (own_pair_emb _ _ _) $$ HR
  icases H with ⟨HP, -⟩
  ihave HP := (show BI.own (((Emb.inl : Emb UP (UP × Counters)).trans (embR : Emb (UP × Counters) 𝕄)) (initOf (Pipeline.cells (pinned (F := F)) cellOf_inj) (Pipeline.launchToks (pinned (F := F)) cellOf_inj)))
    ⊢ BI.own ((EP : Emb UP 𝕄) (initOf (Pipeline.cells (pinned (F := F)) cellOf_inj) (Pipeline.launchToks (pinned (F := F)) cellOf_inj))) from BI.Entails.refl _) $$ HP
  imod (Pipeline.fund_ghost (pinned (F := F)) EP cellOf_inj) $$ HP with ⟨Hg, Ht⟩
  imodintro
  isplitl [HH]; · iexact HH
  isplitl [Hg Ht]
  · iapply hdeal; isplitl [Hg] <;> iassumption
  iempintro

/-! ## @main -/

/-- What `@main` leaves: every buffer at its last contents. -/
abbrev FIN (d : Dev nD) : sProp 𝕄 := held (T d) (ucRefs τ sig) (W5 m d)

/-- The pipeline's step from the buffers before it to those after. -/
def region (B : ℕ) := reg (F := F) (fun c b => W3 m c (at' b)) B (fun c b => W4 m c (at' b)) (W4_ap m) (W4_pv m)
  fun c _ h0 h1 => W4_of_ne m c (devRef_ne_of_ne h0) (devRef_ne_of_ne h1)

/-- Nothing owed, the waits recorded at level `B` or below. -/
abbrev idleAt (d : Dev nD) (B : ℕ) : sProp 𝕄 :=
  iprop(∃ R, ⌜(K (F := F)).WBelow (SparseCore.T d) R B⌝ ∗ owes (SparseCore.T d) (0 : CellTallies nD τ sig (HIx 1)) R)

theorem region_pre (B : ℕ) (d : Dev nD) : (region m B).pre d = iprop(held (SparseCore.T d) (ucRefs τ sig) (W3 m d) ∗ idleAt d B) := by
  rw [← show (unscopedBufs d (fun b => W3 m d (at' b)) : sProp 𝕄) = held (SparseCore.T d) (ucRefs τ sig) (W3 m d) from unscopedBufs_held d (W3 m d)]
  rfl
theorem region_post (B : ℕ) (d : Dev nD) : (region m B).post d = iprop(held (SparseCore.T d) (ucRefs τ sig) (W4 m d) ∗ idleAt d B) := by
  rw [← show (unscopedBufs d (fun b => W4 m d (at' b)) : sProp 𝕄) = held (SparseCore.T d) (ucRefs τ sig) (W4 m d) from unscopedBufs_held d (W4 m d)]
  rfl

set_option backward.isDefEq.respectTransparency.types false in
/-- The pipeline's call in `@main`. -/
theorem wp_pipe [∀ e, Nonempty (Elt F e)] (d : Dev nD) (B : ℕ) (Φ : PUnit → sProp 𝕄) :
    iprop((iprop(boundary (SparseCore.T d) ∗ held (SparseCore.T d) (ucRefs τ sig) (W4 m d) ∗ idleAt d B) -∗ Φ ⟨⟩)
        ∗ boundary (SparseCore.T d) ∗ held (SparseCore.T d) (ucRefs τ sig) (W3 m d) ∗ idleAt d B ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Φ := by
  have h := (Pipeline.RegionSeg.wp (pcfgs (F := F)) adm (pdats (fun c b => W3 m c (at' b)) B) none cellOf_inj EP defs₀ 𝒱₀ (K (F := F)).L (K (F := F)).lev (region m B) d
    none (fun _ h => nomatch h) (fun _ => .ret ⟨⟩) Φ)
  have h2 := (K (F := F)).wp_liftProg (D (F := F)) 𝒱 (SparseCore.T d) Set.univ none (.op (.customCall (Pipeline.entry 0) ()) fun _ => .ret ⟨⟩) Φ
  rw [region_pre, region_post] at h
  rw [show (Prog.lift (.customCall (SparseCore.inner (Pipeline.entry 0)) ()) : Prog (TpuEff nD τ sig (Elt F) (SparseCore.Sig (ΛP (F := F)) 1) .tc) PUnit)
     = SparseCore.liftProg (.op (.customCall (Pipeline.entry 0) ()) fun _ => .ret ⟨⟩) from rfl]
  refine BI.Entails.trans ?_ h2
  refine BI.Entails.trans ?_ h
  change (_ : sProp 𝕄) ⊢ _
  iintro ⟨Hk, Hb, Hub, HO, Hlv, Hg, Ht⟩
  isplitl [Hk]
  · iintro ⟨Hb, Hub, HO⟩
    rw [wp_ret]; imodintro
    iapply Hk
    isplitl [Hb]; · iexact Hb
    isplitl [Hub]; · iexact Hub
    iexact HO
  isplitl [Hb]; · iexact Hb
  isplitl [Hub HO]
  · isplitl [Hub]; · iexact Hub
    iexact HO
  isplitl [Hlv]; · iexact Hlv
  isplitl [Hg]; · iexact Hg
  iexact Ht

/-- What the TensorCore holds after the only SparseCore call besides what it owes: its place in the handshakes. -/
def doneAt (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) : ((K (F := F)).tcSt EH d 1 : sProp 𝕄) = iprop(idleAt d 8 ∗ doneAt d) := by
  unfold SparseCore.Cfg.tcSt
  rw [(K (F := F)).Otc_end d (n := 1) (le_refl 1)]
  rfl

set_option backward.isDefEq.respectTransparency.types false in
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (T d) (ucRefs τ sig) (launchContents m d) from
    unscopedBufs_held d (launchContents m d)]
  iintro ⟨#Hctx, Hst, ⟨Hb, Hheld, Hts, -⟩, HG⟩
  iapply (wp_seq 𝒱 none Set.univ d (ucRefs τ sig) _ ops1 ops1_sub ops1_fresh (launchContents m d)) $$ [Hb Hheld]
  · isplitl [Hb]; · iexact Hb
    iexact Hheld
  iintro ⟨Hb, Hheld⟩
  ihave H := (show (held (d.tc : Thread nD τ) (ucRefs τ sig) (after ops1 (launchContents m d)) : sProp 𝕄) ⊢ _ from call_out m d) $$ Hheld
  icases H with ⟨Hgo, Hrest⟩
  rw [wp_bind]
  iapply ((K (F := F)).wp_run (D (F := F)) 𝒱 (EH := EH) (P := PP m) κ d 0) $$ [Hst Hgo Hb Hrest Hts HG]
  isplitr; · iexact Hctx
  isplitl [Hst]; · iexact Hst
  isplitl [Hgo]; · iexact Hgo
  iintro ⟨Hst, Hdn⟩
  ihave Hheld := (call_in m d) $$ [Hdn Hrest]
  · isplitl [Hdn]; · iexact Hdn
    iexact Hrest
  iapply (wp_seq 𝒱 none Set.univ d (ucRefs τ sig) _ ops2 ops2_sub ops2_fresh (W2 m d)) $$ [Hb Hheld]
  · isplitl [Hb]; · iexact Hb
    iexact Hheld
  iintro ⟨Hb, Hheld⟩
  rw [wp_bind]
  ihave Hs := (show ((K (F := F)).tcSt EH d ((0 : Fin 1).val + 1) : sProp 𝕄) ⊢ iprop(idleAt d 8 ∗ doneAt d) from Entails.of_eq (tcSt_one d)) $$ Hst
  icases Hs with ⟨HO, Hst⟩
  ihave Hlv := ((K (F := F)).ctx_levAts κ) $$ Hctx
  iapply (wp_pipe m d 8 _) $$ [Hst HO Hb Hheld Hts HG Hlv]
  isplitl [Hst Hts]
  · iintro ⟨Hb, Hheld, HO⟩
    iapply (wp_seq 𝒱 none Set.univ d (ucRefs τ sig) _ ops3 ops3_sub ops3_fresh (W4 m d)) $$ [Hb Hheld]
    · isplitl [Hb]; · iexact Hb
      iexact Hheld
    iintro ⟨Hb, Hheld⟩
    rw [wp_pure, tcSt_one]; imodintro
    isplitl [Hst HO]
    · isplitl [HO]; · iexact HO
      iexact Hst
    isplitl [Hheld]; · iexact Hheld
    isplitl [Hb]; · iexact Hb
    iexact Hts
  isplitl [Hb]; · iexact Hb
  isplitl [Hheld]; · iexact Hheld
  isplitl [HO]; · iexact HO
  isplitl [Hlv]; · iexact Hlv
  iexact HG

/-! ## The launch -/

/-- Every buffer of the TensorCore at its last contents. -/
def fq (d : Dev nD) (s' : Phys nD τ sig (Elt F)) : Prop := ∀ b ∈ ucRefs τ sig, s'.mem.mem (d, b) = W5 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro; exact h

/-- What a run ends in: every buffer at its last contents, every counter at zero. -/
def QC : PUnit × MemSt nD τ sig (Elt F) → Prop := fun r => (∀ c : Dev nD, ∀ b ∈ ucRefs τ sig, r.2.mem (c, b) = W5 m c b) ∧ r.2.sem = fun _ => 0

/-- The program's run, from any memory, at any float values. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (scX m) (scA m) (scM m))
    (fun q _ => match q with | 0 => SparseCore.Cfg.VecSplit.of_plain (vecSplit (scX m) (scA m) (scM m)))
    m ρ main (fun d => G (F := F) d) (FIN m) (u₀ (F := F)) (sep_elim_left.trans (hu₀ m)) (hmain m ρ) (fq m) (hfin m) (QC m) (fun _ h hz => ⟨h, hz⟩)

end Cert.Proof.Sc

end
-- ==== Proof.Frames.lean ====
/-
  The three frames: each program's run leaves its arguments and every counter as they were at its start.
-/
module

public import proofs.«01_k».proof.Defs
public import proofs.«01_k».proof.Proof.Main
public import proofs.«01_k».proof.Proof.Gen.Kernel
public import proofs.«01_k».proof.Proof.Gen.ReferenceIdeal.Run

@[expose] public section

noncomputable section

namespace Cert.Proof.Sc

open Cert.KernelIdeal Cert.KernelIdeal.Gen
open Idealize.ShloMosaic Idealize.ShloMosaic.TcCoe Idealize.ShloMosaic.StableHlo
open Idealize.SL Idealize.SL.Sem
open Idealize.ShloMosaic.Pipeline (ucRefs)

variable {F : FTy → Type} [FloatOps F]
variable (m : (ℓ : Loc nD τ sig) → Buf (Elt F) ℓ) (ρ : Dev nD → PrngReg)

/-- What each line of host operations writes. -/
def outs1 : List (Ref sig .tc) := [main_v0, main_v1, main_v2, main_v3, main_v4, main_v5, main_v6, main_v7, main_v8, main_c, main_v9, main_v10, main_v11, main_v12, main_v13, main_v14, main_v15]
def outs2 : List (Ref sig .tc) := [main_v17]
def outs3 : List (Ref sig .tc) := [main_v19, main_v20, main_v21, main_v22]

theorem W1_of_not_mem (d : Dev nD) {b : Ref sig .tc} (h : b ∉ outs1) : W1 m d (at' b) = m (d, at' b) :=
  after_of_writes_sub ops1 (launchContents m d) (forall_writes_sub_of_map (W := outs1) rfl) h
theorem W3_of_not_mem (d : Dev nD) {b : Ref sig .tc} (h : b ∉ outs2) : W3 m d (at' b) = W2 m d (at' b) :=
  after_of_writes_sub ops2 (W2 m d) (forall_writes_sub_of_map (W := outs2) rfl) h
theorem W5_of_not_mem (d : Dev nD) {b : Ref sig .tc} (h : b ∉ outs3) : W5 m d (at' b) = W4 m d (at' b) :=
  after_of_writes_sub ops3 (W4 m d) (forall_writes_sub_of_map (W := outs3) rfl) h

/-- A buffer neither the host operations nor the kernels write ends as it began. -/
theorem W5_kept (d : Dev nD) {b : Ref sig .tc} (h1 : b ∉ outs1) (h2 : b ∉ outs2) (h3 : b ∉ outs3)
    (h4 : b ∉ [main_v16_0, main_v16_1, main_v18_0, main_v18_1]) : W5 m d (at' b) = m (d, at' b) := by
  simp only [List.mem_cons, List.not_mem_nil, or_false, not_or] at h4
  rw [W5_of_not_mem m d h3, W4_of_ne m d (devRef_ne_of_ne h4.2.2.1) (devRef_ne_of_ne h4.2.2.2), W3_of_not_mem m d h2,
    W2_of_ne m d (devRef_ne_of_ne h4.1) (devRef_ne_of_ne h4.2.1), W1_of_not_mem m d h1]

/-- A TensorCore's unscoped buffer is among those the run ends with. -/
theorem at'_mem (b : Ref sig .tc) (h : (at' b).isScoped = false) : at' b ∈ ucRefs τ sig :=
  Finset.mem_filter.mpr ⟨devRef_mem_tcRefs b, by rw [h]; decide⟩

/-- The run, read at the arguments. -/
theorem args_kept {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(h.1 c _ (at'_mem main_arg0 rfl)).trans (W5_kept m c (by decide) (by decide) (by decide) (by decide)),
    (h.1 c _ (at'_mem main_arg1 rfl)).trans (W5_kept m c (by decide) (by decide) (by decide) (by decide)),
    (h.1 c _ (at'_mem main_arg2 rfl)).trans (W5_kept m c (by decide) (by decide) (by decide) (by decide))⟩

theorem frame_kernelIdeal : Cert.quiescent_KernelIdeal := fun m ρ _ =>
  (θ_run Cert.KernelIdeal.defs _ _).mono (fun _ h => ⟨fun c => args_kept m h c, h.2⟩) (run_main (F := Ideal) m ρ)

/-- The run at the machine's words. -/
theorem run_bits (m : (ℓ : Loc nD τ sig) → Buf (Elt Bits) ℓ) (ρ : Dev nD → PrngReg) :
    θ_run (Cert.KernelIdeal.defs (F := Bits)) (Cert.KernelIdeal.threads (F := Bits)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run Cert.KernelIdeal.defs _ _).mono (fun _ h => ⟨fun c => args_kept m h c, h.2⟩) (run_main (F := Bits) m ρ)

/-- The two programs' kernels are the same text, compared at each processor and label. -/
theorem bodies_eq : Cert.Kernel.defs₀ (F := F) = Cert.KernelIdeal.defs₀ := by
  funext p ℓ a
  cases p
  all_goals
    match ℓ, a with
    | 0, a => rfl
    | 1, a => rfl

theorem defs_eq : Cert.Kernel.defs (F := F) = Cert.KernelIdeal.defs := by
  unfold Cert.Kernel.defs Cert.KernelIdeal.defs
  rw [bodies_eq]
  rfl

/-- The kernel's own program is the same text, read at the machine's words. -/
theorem frame_kernel : Cert.quiescent_Kernel := fun m ρ _ => by
  rw [defs_eq]
  exact run_bits m ρ

theorem frame_reference : Cert.quiescent_ReferenceIdeal := fun m ρ _ =>
  (θ_run Cert.ReferenceIdeal.defs _ _).mono
    (fun r h => ⟨fun c => ⟨(h c).2.2.1, (h c).2.2.2.1, (h c).2.2.2.2⟩, sem_eq_zero_of_no_sems (by decide) r.2⟩)
    (Cert.ReferenceIdeal.Value.run (F := Ideal) m ρ)

end Cert.Proof.Sc

end
-- ==== Proof.Plain.lean ====
/-
  What both programs compute, entry by entry, over the extended reals; and that the reference computes it.
-/
module

public import proofs.«01_k».proof.Proof.Gen.ReferenceIdeal.Run
public import Idealize.ShloMosaic.Lib.Pipeline.Value
public import Idealize.ShloMosaic.Lib.ReduceAll
public import Idealize.ShloMosaic.Lib.ValueIdx
public import Idealize.ShloMosaic.Lib.IdealHost

@[expose] public section

noncomputable section

namespace Cert.Proof.Plain

open Cert.ReferenceIdeal Cert.ReferenceIdeal.Gen
open Idealize.ShloMosaic Idealize.ShloMosaic.TcCoe Idealize.ShloMosaic.ValueIdx Idealize.SL.Sem

variable (x : FVec Ideal S16384x64x64 .f32) (act : FVec Ideal S8 .f32) (mask : IVec S64 1)

/-! ## The entries -/

/-- Row `b`'s distance between the first property of the first two objects. -/
def gap (b : Fin 16384) : EReal := FloatOps.absf (F := Ideal) (φ := .f32) (x (ix3 b 0 0) - x (ix3 b 1 0))

/-- Whether object `i` of row `b` exists. -/
def present (b : Fin 16384) (i : Fin 64) : BitVec 1 := FloatOps.cmpf (F := Ideal) (φ := .f32) .ogt (x (ix3 b i i)) (Ideal.ofBits .f32 0x3F4CCCCD#32)

/-- Row `b` satisfies the predicate: the distance is small, and the objects that exist are those of the mask. -/
def meets (b : Fin 16384) : Prop :=
  FloatOps.cmpf (F := Ideal) (φ := .f32) .olt (gap x b) (Ideal.ofBits .f32 0x3DCCCCCD#32) = 1#1 ∧ ∀ i : Fin 64, present x b i = mask (ix1 i)

/-- Action `a`'s scaled weight. -/
def weight (a : Fin 8) : EReal := Ideal.div (act (ix1 a)) (act (ix1 a) + Ideal.ofBits .f32 0x1E3CE508#32)

open Classical in
/-- Entry `(b, a)` of the first result. -/
def prob (b : Fin 16384) (a : Fin 8) : EReal := if meets x mask b then weight act a else 0

/-! ## The reference's terms -/

def refGap : FVec Ideal S16384 .f32 :=
  Host.absf (subf (shapeCast _ (extractStridedSlice S16384x1x1 ![0, 0, 0] x slices_S16384x64x64_S16384x1x1_0_0_0) shapeCasts_S16384x1x1_S16384)
    (shapeCast _ (extractStridedSlice S16384x1x1 ![0, 1, 0] x slices_S16384x64x64_S16384x1x1_0_1_0) shapeCasts_S16384x1x1_S16384))

def refCol : IVec S64x1 32 :=
  broadcastInDim S64x1 ![0] bcast_S64_S64x1_0 (select (cmpi .slt (iotaInDim S64 32 0) (broadcastInDim S64 ![] bcast_S_S64 (constantI S_ 32 0#32)))
    (addi (iotaInDim S64 32 0) (broadcastInDim S64 ![] bcast_S_S64 (constantI S_ 32 64#32))) (iotaInDim S64 32 0))

def refIdx : IVec S64x2 32 := concatenate S64x2 1 [⟨S64x1, refCol⟩, ⟨S64x1, refCol⟩] concatenates_S64x1_S64x1_S64x2_d1

def refDiag : FVec Ideal S16384x64 .f32 := Host.gather gather_S16384x64x64_S64x2_S16384x64_0_12_n_n_12_1_1638411 x refIdx

def refSame : IVec S16384x64 1 :=
  cmpi .eq (broadcastInDim S16384x64 ![0, 1] bcast_S1x64_S16384x64_0_1 (broadcastInDim S1x64 ![1] bcast_S64_S1x64_1 mask))
    (cmpf .ogt (refDiag x) (broadcastInDim S16384x64 ![] bcast_S_S16384x64 (constant S_ .f32 0x3F4CCCCD#32)))

def refSat : IVec S16384 1 :=
  andi (cmpf .olt (refGap x) (broadcastInDim S16384 ![] bcast_S_S16384 (constant S_ .f32 0x3DCCCCCD#32)))
    (Host.reduce IntOp.andi (refSame x mask) (constantI S_ 1 1#1) reducesTo_S16384x64_S16384_d1 h_S_)

def refSat8 : IVec S16384x8 1 := broadcastInDim S16384x8 ![0, 1] bcast_S16384x1_S16384x8_0_1 (broadcastInDim S16384x1 ![0] bcast_S16384_S16384x1_0 (refSat x mask))

def refSum : FVec Ideal S16384x8 .f32 :=
  addf (broadcastInDim S16384x8 ![] bcast_S_S16384x8 (constant S_ .f32 0x00000000#32))
    (select (refSat8 x mask) (broadcastInDim S16384x8 ![0, 1] bcast_S1x8_S16384x8_0_1 (broadcastInDim S1x8 ![1] bcast_S8_S1x8_1 act))
      (broadcastInDim S16384x8 ![] bcast_S_S16384x8 (id (constant S_ .f32 0x00000000#32))))

def refProb : FVec Ideal S16384x8 .f32 :=
  select (refSat8 x mask) (Host.divf (refSum x act mask) (addf (refSum x act mask) (broadcastInDim S16384x8 ![] bcast_S_S16384x8 (constant S_ .f32 0x1E3CE508#32))))
    (refSum x act mask)

/-! ## Their entries -/

theorem refGap_apply (b : Fin 16384) : refGap x (ix1 b) = gap x b := by
  have hs : ∀ (o : Fin 2) (off : Fin 3 → ℕ) (ho : off = ![0, o.val, 0]) (h : S16384x64x64.Slices off S16384x1x1),
      shapeCast S16384 (extractStridedSlice S16384x1x1 off x h) shapeCasts_S16384x1x1_S16384 (ix1 b) = x (ix3 b ⟨o.val, by omega⟩ 0) := by
    intro o off ho h
    subst ho
    refine (shapeCast_apply _ _ _ (ix3 b 0 0) ?_).trans (extractStridedSlice_apply _ _ _ _ _ ?_)
    · rw [Shape.rowMajor_val_three, Shape.rowMajor_val_one]
      show (b.val * 1 + 0) * 1 + 0 = b.val
      omega
    · intro a
      fin_cases a
      · show b.val = 0 + b.val; omega
      · rfl
      · rfl
  show FloatOps.absf (F := Ideal) (φ := .f32) (_ - _) = _
  rw [hs 0 ![0, 0, 0] rfl, hs 1 ![0, 1, 0] rfl]
  rfl

theorem refCol_apply (i : Fin 64) (k : Fin 1) : refCol (ix2 i k) = BitVec.ofNat 32 i.val := by
  refine (broadcastInDim_apply _ _ _ _ (ix1 i) (fun a => by fin_cases a; rfl)).trans ?_
  have key : ∀ i : Fin 64, Scalar.select (IntOp.cmpi .slt (BitVec.ofNat 32 i.val) 0#32) (IntOp.addi (BitVec.ofNat 32 i.val) 64#32) (BitVec.ofNat 32 i.val)
      = BitVec.ofNat 32 i.val := by decide
  exact key i

theorem refIdx_apply (i : Fin 64) (k : Fin 2) : refIdx (ix2 i k) = BitVec.ofNat 32 i.val := by
  by_cases hk : k.val = 0
  · refine (concatenate_pair_apply_left (1 : Fin 2) refCol refCol _ (ix2 i k) rfl (ix2 i 0) ?_).trans (refCol_apply i 0)
    intro a; fin_cases a
    · rfl
    · exact hk.symm
  · refine (concatenate_pair_apply_right (1 : Fin 2) refCol refCol _ (ix2 i k) rfl rfl (ix2 i 0) ?_ ?_).trans (refCol_apply i 0)
    · intro a ha; fin_cases a
      · rfl
      · exact absurd rfl ha
    · show 0 + 1 = k.val
      omega

/-- The gather takes the diagonal. -/
theorem refDiag_apply (b : Fin 16384) (i : Fin 64) : refDiag x (ix2 b i) = x (ix3 b i i) := by
  unfold refDiag Host.gather
  congr 1
  funext a
  refine Fin.ext ?_
  show (gather_S16384x64x64_S64x2_S16384x64_0_12_n_n_12_1_1638411).start (ix2 b i) refIdx a
    + (gather_S16384x64x64_S64x2_S16384x64_0_12_n_n_12_1_1638411).batchCoord (ix2 b i) a
    + (gather_S16384x64x64_S64x2_S16384x64_0_12_n_n_12_1_1638411).offCoord (ix2 b i) a = _
  rw [GatherDims.batchCoord_eq_zero _ _ _ List.not_mem_nil]
  have hword : (BitVec.ofNat 32 i.val).toInt.toNat = i.val := by
    have : ∀ i : Fin 64, (BitVec.ofNat 32 i.val).toInt.toNat = i.val := by decide
    exact this i
  have hmapped : ∀ c : Fin 3, c ≠ 0 → (gather_S16384x64x64_S64x2_S16384x64_0_12_n_n_12_1_1638411).start (ix2 b i) refIdx c = i.val := by
    intro c hc
    have hm : c ∈ (gather_S16384x64x64_S64x2_S16384x64_0_12_n_n_12_1_1638411).startIndexMap := by
      show c ∈ ([1, 2] : List (Fin 3)); revert c; decide
    unfold GatherDims.start
    rw [dif_pos hm]
    have hsi : ∀ q, (gather_S16384x64x64_S64x2_S16384x64_0_12_n_n_12_1_1638411).siIdx (ix2 b i) q = ix2 i (⟨q.val, q.isLt⟩ : Fin 2) := by
      intro q; funext c; refine Fin.ext ?_
      fin_cases c
      · rfl
      · rfl
    rw [hsi, refIdx_apply, hword]
    have hi := i.isLt
    fin_cases c
    · exact absurd rfl hc
    · exact Nat.min_eq_left (by show i.val ≤ 63; omega)
    · exact Nat.min_eq_left (by show i.val ≤ 63; omega)
  fin_cases a
  · show (if h : _ then _ else 0) + 0 + _ = b.val
    rw [dif_neg (by decide)]
    show 0 + 0 + b.val = b.val
    omega
  · rw [GatherDims.offCoord_eq_zero _ _ _ (fun h => ((GatherDims.mem_sKept _ _).mp h).1 (by decide))]
    show _ + 0 + 0 = i.val
    rw [Nat.add_zero]
    exact hmapped 1 (by decide)
  · rw [GatherDims.offCoord_eq_zero _ _ _ (fun h => ((GatherDims.mem_sKept _ _).mp h).1 (by decide))]
    show _ + 0 + 0 = i.val
    rw [Nat.add_zero]
    exact hmapped 2 (by decide)

theorem eq_word_one (a b : BitVec 1) : IntOp.cmpi .eq a b = 1#1 ↔ b = a := by revert a b; decide

theorem refSame_apply (b : Fin 16384) (i : Fin 64) : refSame x mask (ix2 b i) = IntOp.cmpi .eq (mask (ix1 i)) (present x b i) := by
  have hm : broadcastInDim S16384x64 ![0, 1] bcast_S1x64_S16384x64_0_1 (broadcastInDim S1x64 ![1] bcast_S64_S1x64_1 mask) (ix2 b i) = mask (ix1 i) :=
    (broadcastInDim_apply _ _ _ _ (ix2 (0 : Fin 1) i) (fun a => by fin_cases a <;> rfl)).trans
      (broadcastInDim_apply _ _ _ _ (ix1 i) (fun a => by fin_cases a; rfl))
  show IntOp.cmpi .eq (broadcastInDim S16384x64 ![0, 1] bcast_S1x64_S16384x64_0_1 (broadcastInDim S1x64 ![1] bcast_S64_S1x64_1 mask) (ix2 b i))
    (FloatOps.cmpf (F := Ideal) (φ := .f32) .ogt (refDiag x (ix2 b i)) (Ideal.ofBits .f32 0x3F4CCCCD#32)) = _
  rw [hm, refDiag_apply]
  rfl

theorem drop_ix2 (b : Fin 16384) (i : Fin 64) : (reducesTo_S16384x64_S16384_d1).drop (ix2 b i) = ix1 b := by
  funext a; fin_cases a; rfl

/-- The reference's verdict is the predicate. -/
theorem refSat_apply (b : Fin 16384) : refSat x mask (ix1 b) = 1#1 ↔ meets x mask b := by
  show IntOp.andi (FloatOps.cmpf (F := Ideal) (φ := .f32) .olt (refGap x (ix1 b)) (Ideal.ofBits .f32 0x3DCCCCCD#32)) _ = 1#1 ↔ _
  rw [IntOp.andi_eq_one, refGap_apply]
  unfold meets
  refine and_congr_right fun _ => ⟨fun h i => ?_, fun h => ?_⟩
  · have := Host.reduce_andi_eq_one _ _ _ _ _ h (ix2 b i) (drop_ix2 b i)
    rw [refSame_apply] at this
    exact (eq_word_one _ _).mp this
  · rw [Host.reduce_eq_foldl]
    refine IntOp.foldl_andi_one _ _ _ rfl fun j hj => ?_
    have hd : (reducesTo_S16384x64_S16384_d1).drop j = ix1 b := by simpa using (List.mem_filter.mp hj).2
    obtain ⟨b', i, rfl⟩ : ∃ b' i, j = ix2 b' i := ⟨_, _, eq_ix2 j⟩
    rw [drop_ix2] at hd
    have hb : b' = b := congrFun hd 0
    subst hb
    rw [refSame_apply]
    exact (eq_word_one _ _).mpr (h i)

theorem refSat8_apply (b : Fin 16384) (a : Fin 8) : refSat8 x mask (ix2 b a) = refSat x mask (ix1 b) :=
  (broadcastInDim_apply _ _ _ _ (ix2 b (0 : Fin 1)) (fun a => by fin_cases a <;> rfl)).trans
    (broadcastInDim_apply _ _ _ _ (ix1 b) (fun a => by fin_cases a; rfl))

theorem refSum_apply (b : Fin 16384) (a : Fin 8) : refSum x act mask (ix2 b a) = Scalar.select (refSat x mask (ix1 b)) (act (ix1 a)) 0 := by
  have ha : broadcastInDim S16384x8 ![0, 1] bcast_S1x8_S16384x8_0_1 (broadcastInDim S1x8 ![1] bcast_S8_S1x8_1 act) (ix2 b a) = act (ix1 a) :=
    (broadcastInDim_apply _ _ _ _ (ix2 (0 : Fin 1) a) (fun a => by fin_cases a <;> rfl)).trans
      (broadcastInDim_apply _ _ _ _ (ix1 a) (fun a => by fin_cases a; rfl))
  show Ideal.ofBits .f32 0x00000000#32 + Scalar.select (refSat8 x mask (ix2 b a))
    (broadcastInDim S16384x8 ![0, 1] bcast_S1x8_S16384x8_0_1 (broadcastInDim S1x8 ![1] bcast_S8_S1x8_1 act) (ix2 b a)) (Ideal.ofBits .f32 0x00000000#32) = _
  rw [ha, refSat8_apply, Ideal.ofBits_zero_f32, zero_add]

/-- The reference's first result. -/
theorem refProb_apply (b : Fin 16384) (a : Fin 8) : refProb x act mask (ix2 b a) = prob x act mask b a := by
  show Scalar.select (refSat8 x mask (ix2 b a)) (Ideal.div (refSum x act mask (ix2 b a)) (refSum x act mask (ix2 b a) + Ideal.ofBits .f32 0x1E3CE508#32))
    (refSum x act mask (ix2 b a)) = _
  rw [refSat8_apply, refSum_apply]
  unfold prob
  by_cases h : meets x mask b
  · rw [if_pos h, (refSat_apply x mask b).mpr h]; rfl
  · rw [if_neg h, eq_zero_of_ne_one (fun e => h ((refSat_apply x mask b).mp e))]; rfl

end Cert.Proof.Plain

end
-- ==== Proof.Lower.lean ====
/-
  The SparseCore's part over the extended reals: from a table that holds the last 1024 rows of `x`, the rows' distances and
  the rows' probabilities.
-/
module

public import proofs.«01_k».proof.Proof.Values
public import proofs.«01_k».proof.Proof.Plain

@[expose] public section

noncomputable section

namespace Cert.Proof.Sc

open Cert.KernelIdeal Cert.KernelIdeal.Gen
open Idealize.ShloMosaic Idealize.ShloMosaic.TcCoe Idealize.ShloMosaic.ValueIdx Idealize.SL.Sem
open Cert.Proof.Plain

variable {x : FVec Ideal S16384x64x64 .f32} {act : FVec Ideal S8 .f32} {mask : IVec S64 1}
variable {X : Vec Ideal S262144x16 .f32} {A : Vec Ideal S16 .f32} {Mk : Vec Ideal S64 .i32}

/-- Row `R` of the last 1024. -/
def low (R : Fin 1024) : Fin 16384 := ⟨15360 + R.val, by omega⟩

/-- The table holds the last rows of `x`, sixteen entries to a row of the table. -/
def Holds (x : FVec Ideal S16384x64x64 .f32) (X : Vec Ideal S262144x16 .f32) : Prop :=
  ∀ (R : Fin 1024) (i j : Fin 64) (r c : ℕ), c < 16 → 16 * r + c = 4096 * R.val + 64 * i.val + j.val → X (tab r c) = x (ix3 (low R) i j)

theorem gapAt_eq (hX : Holds x X) (R : Fin 1024) : gapAt X R.val = gap x (low R) := by
  unfold gapAt gap
  rw [hX R 0 0 _ 0 (by decide) (by show _ = 4096 * R.val + 64 * 0 + 0; omega),
    hX R 1 0 _ 0 (by decide) (by show _ = 4096 * R.val + 64 * 1 + 0; omega)]
  rfl

/-- Neither-or-both of two bits, the second widened and compared with 0, asks that they agree. -/
theorem agree_word (a p q : BitVec 1) : IntOp.andi a (IntOp.xori (IntOp.xori p (IntOp.cmpi .sgt (q.setWidth 32) 0#32)) 1#1) = 1#1 ↔ a = 1#1 ∧ p = q := by
  revert a p q; decide

theorem okAt_eq (hX : Holds x X) (hM : ∀ i : Fin 64, Mk (at64 i.val) = (mask (ix1 i)).setWidth 32) (R : Fin 1024) (n : ℕ) (hn : n ≤ 64) :
    okAt X Mk R.val n = 1#1 ↔ FloatOps.cmpf (F := Ideal) (φ := .f32) .olt (gap x (low R)) (Ideal.ofBits .f32 0x3DCCCCCD#32) = 1#1
      ∧ ∀ i : Fin 64, i.val < n → present x (low R) i = mask (ix1 i) := by
  induction n with
  | zero =>
    have h0 : okAt X Mk R.val 0 = FloatOps.cmpf (F := Ideal) (φ := .f32) .olt (gapAt X R.val) (Ideal.ofBits .f32 0x3DCCCCCD#32) := rfl
    rw [h0, gapAt_eq hX]
    exact ⟨fun h => ⟨h, fun _ h => absurd h (Nat.not_lt_zero _)⟩, fun h => h.1⟩
  | succ n ih =>
    have hd := hX R ⟨n, hn⟩ ⟨n, hn⟩ (256 * R.val + 65 * n / 16) (n % 16) (Nat.mod_lt _ (by decide)) (by show _ = 4096 * R.val + 64 * n + n; omega)
    have hs : okAt X Mk R.val (n + 1) = IntOp.andi (okAt X Mk R.val n) (IntOp.xori (IntOp.xori
        (FloatOps.cmpf (F := Ideal) (φ := .f32) .ogt (X (tab (256 * R.val + 65 * n / 16) (n % 16))) (Ideal.ofBits .f32 0x3F4CCCCD#32))
        (IntOp.cmpi .sgt (Mk (at64 n)) 0#32)) 1#1) := rfl
    rw [hs, hd, hM ⟨n, hn⟩, agree_word, ih (by omega), and_assoc]
    refine and_congr_right fun _ => ⟨fun h i hi => ?_, fun h => ⟨fun i hi => h i (by omega), h ⟨n, hn⟩ (Nat.lt_succ_self n)⟩⟩
    rcases Nat.lt_succ_iff_lt_or_eq.mp hi with hi | hi
    · exact h.1 i hi
    · obtain rfl : i = ⟨n, hn⟩ := Fin.ext hi
      exact h.2

theorem okAt_meets (hX : Holds x X) (hM : ∀ i : Fin 64, Mk (at64 i.val) = (mask (ix1 i)).setWidth 32) (R : Fin 1024) :
    okAt X Mk R.val 64 = 1#1 ↔ meets x mask (low R) := by
  rw [okAt_eq hX hM R 64 le_rfl]
  exact and_congr_right fun _ => ⟨fun h i => h i i.isLt, fun h i _ => h i⟩

/-- The verdict as a number, times a weight, is the weight where the row meets the predicate and 0 elsewhere. -/
theorem verdict_mul {v : BitVec 1} {b : Fin 16384} (hv : v = 1#1 ↔ meets x mask b) (a : Fin 8) :
    Scalar.select v (Ideal.ofBits .f32 0x3F800000#32) (Ideal.ofBits .f32 0x00000000#32) * weight act a = prob x act mask b a := by
  rw [Ideal.ofBits_one_f32, Ideal.ofBits_zero_f32]
  unfold prob
  by_cases h : meets x mask b
  · rw [if_pos h, hv.mpr h]; exact one_mul _
  · rw [if_neg h, eq_zero_of_ne_one (fun e => h (hv.mp e))]; exact zero_mul _

/-- The SparseCore's first result, eight entries to a row. -/
theorem apOut_eq (hX : Holds x X) (hA : ∀ l : ℕ, A (at16 l) = act (ix1 ⟨l % 8, Nat.mod_lt _ (by decide)⟩))
    (hM : ∀ i : Fin 64, Mk (at64 i.val) = (mask (ix1 i)).setWidth 32) (R : Fin 1024) (a : Fin 8) (y : S8192.Idx) (hy : (y 0).val = 8 * R.val + a.val) :
    apOut X A Mk y = prob x act mask (low R) a := by
  rw [← verdict_mul (okAt_meets hX hM R) a]
  show verdAt X Mk ((y 0).val / 8) * scaled A (y 0).val = _
  rw [hy, show (8 * R.val + a.val) / 8 = R.val by omega]
  have hs : scaled A (8 * R.val + a.val) = weight act a := by
    show Ideal.div (A (at16 _)) (A (at16 _) + Ideal.ofBits .f32 0x1E3CE508#32) = _
    rw [hA, show (⟨(8 * R.val + a.val) % 8, Nat.mod_lt _ (by decide)⟩ : Fin 8) = a from Fin.ext (by show (8 * R.val + a.val) % 8 = a.val; omega)]
    rfl
  rw [hs]
  rfl

/-- The SparseCore's second result. -/
theorem pvOut_eq (hX : Holds x X) (R : Fin 1024) : pvOut X (ix1 R) = gap x (low R) := gapAt_eq hX R

end Cert.Proof.Sc

end
-- ==== Proof.Upper.lean ====
/-
  The TensorCore's part over the extended reals: a row's matches on the diagonal, counted by a product with the diagonal's
  indicator, are all there exactly where the count exceeds 63.5.
-/
module

public import proofs.«01_k».proof.Proof.Region
public import proofs.«01_k».proof.Proof.Lower
public import Idealize.ShloMosaic.Lib.MatmulPlain

@[expose] public section

noncomputable section

namespace Cert.Proof.Sc

open Cert.KernelIdeal Cert.KernelIdeal.Gen
open Idealize.ShloMosaic Idealize.ShloMosaic.TcCoe Idealize.ShloMosaic.ValueIdx Idealize.SL.Sem
open Cert.Proof.Plain

variable {x : FVec Ideal S16384x64x64 .f32} {act : FVec Ideal S8 .f32} {mask : IVec S64 1}

/-- A flattened position's row and column. -/
def rowOf (k : Fin 4096) : Fin 64 := ⟨k.val / 64, by omega⟩
def colOf (k : Fin 4096) : Fin 64 := ⟨k.val % 64, by omega⟩
/-- The flattened diagonal. -/
def diag (i : Fin 64) : Fin 4096 := ⟨65 * i.val, by omega⟩

theorem rowOf_diag (i : Fin 64) : rowOf (diag i) = i := Fin.ext (by show 65 * i.val / 64 = i.val; omega)
theorem colOf_diag (i : Fin 64) : colOf (diag i) = i := Fin.ext (by show 65 * i.val % 64 = i.val; omega)
theorem eq_diag {k : Fin 4096} (h : rowOf k = colOf k) : k = diag (rowOf k) := by
  have h' : k.val / 64 = k.val % 64 := congrArg Fin.val h
  exact Fin.ext (by show k.val = 65 * (k.val / 64); omega)

/-- A sum against the diagonal's indicator is the sum along the diagonal. -/
theorem sum_diag (f : Fin 4096 → EReal) : ∑ k, f k * (if rowOf k = colOf k then 1 else 0) = ∑ i, f (diag i) := by
  symm
  refine Finset.sum_of_injOn diag (fun i _ j _ h => ?_) (fun _ _ => Finset.mem_coe.mpr (Finset.mem_univ _)) (fun k _ hk => ?_) (fun i _ => ?_)
  · rw [← rowOf_diag i, h, rowOf_diag]
  · rw [if_neg, mul_zero]
    intro h
    exact hk ⟨rowOf k, Finset.mem_coe.mpr (Finset.mem_univ _), (eq_diag h).symm⟩
  · rw [rowOf_diag, colOf_diag, if_pos rfl, mul_one]

theorem ofBits_limit : Ideal.ofBits .f32 0x427E0000#32 = ((63.5 : ℝ) : EReal) := by
  simp [Ideal.ofBits, Ideal.ieee, -EReal.coe_mul]; norm_num

/-- A bit widened, read as a number. -/
theorem bit_number (w : BitVec 1) : (((w.setWidth 32).toInt : ℝ) : EReal) = if w = 1#1 then 1 else 0 := by
  have : ∀ w : BitVec 1, (w.setWidth 32).toInt = if w = 1#1 then 1 else 0 := by decide
  rw [this]
  split <;> simp

/-- Sixty-four bits are all set exactly where their number exceeds 63.5. -/
theorem count_all (w : Fin 64 → BitVec 1) :
    Ideal.cmp .ogt (∑ i, (if w i = 1#1 then 1 else 0)) ((63.5 : ℝ) : EReal) = 1#1 ↔ ∀ i, w i = 1#1 := by
  rw [Finset.sum_boole]
  have h1 : ∀ n : ℕ, Ideal.cmp .ogt (n : EReal) ((63.5 : ℝ) : EReal) = 1#1 ↔ 64 ≤ n := by
    intro n
    have h2 : ∀ p : Bool, BitVec.ofBool p = 1#1 ↔ p = true := by decide
    show BitVec.ofBool (decide (((63.5 : ℝ) : EReal) < (n : EReal))) = 1#1 ↔ _
    rw [h2, decide_eq_true_iff, ← EReal.coe_natCast, EReal.coe_lt_coe_iff]
    constructor
    · intro h
      by_contra hn
      have : (n : ℝ) ≤ 63 := by exact_mod_cast (by omega : n ≤ 63)
      linarith
    · intro h
      have : (64 : ℝ) ≤ n := by exact_mod_cast h
      linarith
  rw [h1]
  constructor
  · intro h
    have hc : (Finset.univ.filter fun i => w i = 1#1) = Finset.univ :=
      Finset.eq_univ_of_card _ (le_antisymm (Finset.card_le_univ _) (by simpa using h))
    intro i
    simpa using (Finset.ext_iff.mp hc i).mpr (Finset.mem_univ i)
  · intro h
    rw [Finset.filter_true_of_mem fun i _ => h i]
    simp

/-- Two bits agree, the second widened and compared with 0. -/
theorem agree_bit (p q : BitVec 1) : IntOp.xori (IntOp.xori p (IntOp.cmpi .sgt (q.setWidth 32) 0#32)) 1#1 = 1#1 ↔ p = q := by
  revert p q; decide

section Block
variable {Z : Vec Ideal S512x4096 .f32} {A : Vec Ideal S1x8 .f32} {Mk : Vec Ideal S1x4096 .i32} {E : Vec Ideal S4096x1 .f32}
variable {b : Fin 16384} {p : Fin 512}

theorem pay2_eq : k1_pay2 (F := Ideal) Z = Z := shapeCast_self _ _

theorem pvBlock_eq (hZ : ∀ k, Z (ix2 p k) = x (ix3 b (rowOf k) (colOf k))) : pvBlock Z (ix2 p 0) = gap x b := by
  have hs : ∀ (k : Fin 4096) (off : Fin 2 → ℕ) (ho : off = ![0, k.val]) (h : S512x4096.Slices off S512x1),
      extractStridedSlice S512x1 off (k1_pay2 (F := Ideal) Z) h (ix2 p 0) = x (ix3 b (rowOf k) (colOf k)) := by
    intro k off ho h
    subst ho
    rw [pay2_eq, ← hZ]
    refine extractStridedSlice_apply _ _ _ _ _ fun a => ?_
    fin_cases a
    · show p.val = 0 + p.val; omega
    · show k.val = k.val + 0; omega
  show FloatOps.absf (F := Ideal) (φ := .f32) (_ - _) = _
  rw [hs ⟨0, by decide⟩ ![0, 0] rfl, hs ⟨64, by decide⟩ ![0, 64] rfl]
  rfl

/-- Whether position `k` of row `p` agrees with the mask, as the kernel computes it. -/
def hit (Z : Vec Ideal S512x4096 .f32) (Mk : Vec Ideal S1x4096 .i32) : IVec S512x4096 1 :=
  xori (xori (cmpf .ogt (k1_pay2 (F := Ideal) Z) (broadcast S512x4096 (Scalar.ofBits .f32 0x3F4CCCCD#32)))
    (broadcastTo S512x4096 (broadcastTo S512x4096 (cmpi .sgt (shapeCast S1x4096 Mk shapeCasts_S1x4096_S1x4096) (broadcast S1x4096 0#32)) broadcasts_S1x4096_S512x4096)
      broadcasts_S512x4096_S512x4096)) (constantI S512x4096 1 1#1)

theorem hit_apply (k : Fin 4096) : hit Z Mk (ix2 p k)
    = IntOp.xori (IntOp.xori (FloatOps.cmpf (F := Ideal) (φ := .f32) .ogt (Z (ix2 p k)) (Ideal.ofBits .f32 0x3F4CCCCD#32)) (IntOp.cmpi .sgt (Mk (ix2 0 k)) 0#32)) 1#1 := by
  have hb : broadcastTo S512x4096 (broadcastTo S512x4096 (cmpi .sgt (shapeCast S1x4096 Mk shapeCasts_S1x4096_S1x4096) (broadcast S1x4096 0#32)) broadcasts_S1x4096_S512x4096)
      broadcasts_S512x4096_S512x4096 (ix2 p k) = IntOp.cmpi .sgt (Mk (ix2 0 k)) 0#32 := by
    refine (broadcastTo_apply _ _ _ (ix2 p k) (fun a => by fin_cases a <;> rfl)).trans
      ((broadcastTo_apply _ _ _ (ix2 0 k) (fun a => by fin_cases a <;> rfl)).trans ?_)
    rw [shapeCast_self]
    rfl
  show IntOp.xori (IntOp.xori (FloatOps.cmpf (F := Ideal) (φ := .f32) .ogt (k1_pay2 (F := Ideal) Z (ix2 p k)) (Ideal.ofBits .f32 0x3F4CCCCD#32)) (broadcastTo _ _ _ _)) 1#1 = _
  rw [hb, pay2_eq]

/-- The rows' matches on the diagonal, counted by the product. -/
def count (Z : Vec Ideal S512x4096 .f32) (Mk : Vec Ideal S1x4096 .i32) (E : Vec Ideal S4096x1 .f32) : FVec Ideal S512x1 .f32 :=
  matmul (φ₁ := .f32) (φ₂ := .f32) dot_S512x4096_S4096x1_S512x1_1_0_0_1_n_n none (sitofp (F := Ideal) .f32 (extui 32 (hit Z Mk) natLt_1_32))
    (shapeCast S4096x1 E shapeCasts_S4096x1_S4096x1) (constant S512x1 .f32 0x00000000#32)

theorem count_eq (hE : ∀ k, E (ix2 k 0) = if rowOf k = colOf k then 1 else 0) :
    count Z Mk E (ix2 p 0) = ∑ i : Fin 64, if hit Z Mk (ix2 p (diag i)) = 1#1 then 1 else 0 := by
  refine (Ideal.matmul_plain_apply (M := 512) (K := 4096) (N := 1) (φ₁ := .f32) (φ₂ := .f32) none
    (sitofp (F := Ideal) .f32 (extui 32 (hit Z Mk) natLt_1_32)) (shapeCast S4096x1 E shapeCasts_S4096x1_S4096x1)
    (constant S512x1 .f32 0x00000000#32) p 0).trans ?_
  rw [show (constant S512x1 .f32 0x00000000#32 : FVec Ideal S512x1 .f32) (ix2 p 0) = 0 from Ideal.ofBits_zero_f32, zero_add, shapeCast_self]
  refine Eq.trans (Finset.sum_congr rfl fun k _ => ?_)
    ((sum_diag fun k => if hit Z Mk (ix2 p k) = 1#1 then 1 else 0))
  rw [hE]
  exact congrArg (· * _) (bit_number (hit Z Mk (ix2 p k)))

/-- A row's verdict bit. -/
theorem verdict_eq (hZ : ∀ k, Z (ix2 p k) = x (ix3 b (rowOf k) (colOf k))) (hM : ∀ k, Mk (ix2 0 k) = (mask (ix1 (rowOf k))).setWidth 32)
    (hE : ∀ k, E (ix2 k 0) = if rowOf k = colOf k then 1 else 0) :
    IntOp.andi (FloatOps.cmpf (F := Ideal) (φ := .f32) .ogt (count Z Mk E (ix2 p 0)) (Ideal.ofBits .f32 0x427E0000#32))
      (FloatOps.cmpf (F := Ideal) (φ := .f32) .olt (pvBlock Z (ix2 p 0)) (Ideal.ofBits .f32 0x3DCCCCCD#32)) = 1#1 ↔ meets x mask b := by
  rw [IntOp.andi_eq_one, count_eq hE, ofBits_limit, pvBlock_eq hZ]
  unfold meets
  rw [and_comm]
  refine and_congr_right fun _ => (count_all fun i => hit Z Mk (ix2 p (diag i))).trans (forall_congr' fun i => ?_)
  rw [hit_apply, hZ, hM, rowOf_diag, colOf_diag, agree_bit]
  rfl

theorem apBlock_eq (hZ : ∀ k, Z (ix2 p k) = x (ix3 b (rowOf k) (colOf k))) (hA : ∀ a, A (ix2 0 a) = act (ix1 a))
    (hM : ∀ k, Mk (ix2 0 k) = (mask (ix1 (rowOf k))).setWidth 32) (hE : ∀ k, E (ix2 k 0) = if rowOf k = colOf k then 1 else 0) (a : Fin 8) :
    apBlock Z A Mk E (ix2 p a) = prob x act mask b a := by
  rw [← verdict_mul (verdict_eq hZ hM hE) a]
  have hl : broadcastTo S512x8 (k1_pay4 Z Mk E) broadcasts_S512x1_S512x8 (ix2 p a) = k1_pay4 Z Mk E (ix2 p 0) :=
    broadcastTo_apply _ _ _ _ (fun a => by fin_cases a <;> rfl)
  have hr : broadcastTo S512x8 (k1_pay5 A A) broadcasts_S1x8_S512x8 (ix2 p a) = weight act a := by
    refine (broadcastTo_apply _ _ _ (ix2 0 a) (fun a => by fin_cases a <;> rfl)).trans ?_
    show Ideal.div (shapeCast S1x8 A _ (ix2 0 a)) (shapeCast S1x8 A _ (ix2 0 a) + Ideal.ofBits .f32 0x1E3CE508#32) = _
    rw [shapeCast_self, hA]
    rfl
  show broadcastTo S512x8 (k1_pay4 Z Mk E) broadcasts_S512x1_S512x8 (ix2 p a) * broadcastTo S512x8 (k1_pay5 A A) broadcasts_S1x8_S512x8 (ix2 p a) = _
  rw [hl, hr]
  rfl

end Block

section Whole
variable {Y : Vec Ideal S16384x4096 .f32} {A : Vec Ideal S1x8 .f32} {Mk : Vec Ideal S1x4096 .i32} {E : Vec Ideal S4096x1 .f32}

/-- Row `R` of the first 15360. -/
def high (R : Fin 15360) : Fin 16384 := ⟨R.val, by omega⟩

theorem rowsOf_eq (hY : ∀ b k, Y (ix2 b k) = x (ix3 b (rowOf k) (colOf k))) (R : Fin 15360) (k : Fin 4096) :
    rowsOf Y (R.val / 512) (ix2 ⟨R.val % 512, Nat.mod_lt _ (by decide)⟩ k) = x (ix3 (high R) (rowOf k) (colOf k)) := by
  rw [← hY]
  have hb : (⟨(512 * (R.val / 512) + R.val % 512) % 16384, Nat.mod_lt _ (by decide)⟩ : Fin 16384) = high R :=
    Fin.ext (by show (512 * (R.val / 512) + R.val % 512) % 16384 = R.val; omega)
  rw [← hb]
  rfl

/-- The TensorCore's two results. -/
theorem apTop_eq (hY : ∀ b k, Y (ix2 b k) = x (ix3 b (rowOf k) (colOf k))) (hA : ∀ a, A (ix2 0 a) = act (ix1 a))
    (hM : ∀ k, Mk (ix2 0 k) = (mask (ix1 (rowOf k))).setWidth 32) (hE : ∀ k, E (ix2 k 0) = if rowOf k = colOf k then 1 else 0)
    (R : Fin 15360) (a : Fin 8) : apTop Y A Mk E (ix2 R a) = prob x act mask (high R) a :=
  apBlock_eq (rowsOf_eq hY R) hA hM hE a
theorem pvTop_eq (hY : ∀ b k, Y (ix2 b k) = x (ix3 b (rowOf k) (colOf k))) (R : Fin 15360) : pvTop Y (ix2 R 0) = gap x (high R) :=
  pvBlock_eq (rowsOf_eq hY R)

end Whole

end Cert.Proof.Sc

end
-- ==== Proof.Equal.lean ====
/-
  The two programs' results are equal over the extended reals: every entry of either is the entry stated in `Plain`.
-/
module

public import proofs.«01_k».proof.Proof.Frames
public import proofs.«01_k».proof.Proof.Upper

@[expose] public section

noncomputable section

namespace Cert.Proof.Sc

open Cert.KernelIdeal Cert.KernelIdeal.Gen
open Idealize.ShloMosaic Idealize.ShloMosaic.TcCoe Idealize.ShloMosaic.StableHlo Idealize.ShloMosaic.ValueIdx
open Idealize.SL Idealize.SL.Sem
open Cert.Proof.Plain

variable (m : (ℓ : Loc nD τ sig) → Buf (Elt Ideal) ℓ) (d : Dev nD)

/-- The three arguments of a device. -/
abbrev argX : FVec Ideal S16384x64x64 .f32 := m (d, at' main_arg0)
abbrev argA : FVec Ideal S8 .f32 := m (d, at' main_arg1)
abbrev argM : IVec S64 1 := m (d, at' main_arg2)

/-! ## What the kernels read -/

theorem read_v15 : scX m d = shapeCast S262144x16 (extractStridedSlice S1024x64x64 ![15360, 0, 0] (argX m d) slices_S16384x64x64_S1024x64x64_15360_0_0)
    shapeCasts_S1024x64x64_S262144x16 := by
  unfold scX W1 ops1; after_results_simp; rfl
theorem read_v0 : scA m d = concatenate S16 0 [⟨S8, argA m d⟩, ⟨S8, argA m d⟩] concatenates_S8_S8_S16_d0 := by
  unfold scA W1 ops1; after_results_simp
theorem read_v1 : scM m d = extui 32 (argM m d) natLt_1_32 := by
  unfold scM W1 ops1; after_results_simp
theorem read_v2 : W1 m d (at' main_v2) = shapeCast S1x8 (argA m d) shapeCasts_S8_S1x8 := by
  unfold W1 ops1; after_results_simp; rfl
theorem read_v6 : W1 m d (at' main_v6) = shapeCast S1x4096 (shapeCast S4096 (broadcastInDim S64x64 ![0] bcast_S64_S64x64_0 (extui 32 (argM m d) natLt_1_32))
    shapeCasts_S64x64_S4096) shapeCasts_S4096_S1x4096 := by
  unfold W1 ops1; after_results_simp; rfl
theorem read_v13 : W1 m d (at' main_v13) = shapeCast S4096x1 (uitofp (F := Ideal) .f32 (cmpi .eq (addi (iotaInDim S64x64 32 0)
    (broadcastInDim S64x64 ![] bcast_S_S64x64 (constantI S_ 32 0#32))) (iotaInDim S64x64 32 1))) shapeCasts_S64x64_S4096x1 := by
  unfold W1 ops1; after_results_simp; rfl
theorem read_v17 : W3 m d (at' main_v17) = shapeCast S16384x4096 (argX m d) shapeCasts_S16384x64x64_S16384x4096 := by
  have h : W2 m d (at' main_arg0) = argX m d := by
    rw [W2_of_ne m d (by decide) (by decide), W1_of_not_mem m d (by decide)]
  rw [← h]
  unfold W3 ops2; after_results_simp; rfl

/-- What the pipeline reads of the buffers set before the SparseCore call. -/
theorem W3_eq_W1 {b : Ref sig .tc} (h2 : b ∉ outs2) (h0 : b ≠ main_v16_0) (h1 : b ≠ main_v16_1) : W3 m d (at' b) = W1 m d (at' b) := by
  rw [W3_of_not_mem m d h2, W2_of_ne m d (devRef_ne_of_ne h0) (devRef_ne_of_ne h1)]

/-! ## Their entries -/

theorem holds_scX : Holds (argX m d) (scX m d) := by
  intro R i j r c hc hp
  have hr : r < 262144 := by omega
  rw [read_v15]
  refine (shapeCast_apply _ _ _ (ix3 R i j) ?_).trans (extractStridedSlice_apply _ _ _ _ _ fun a => ?_)
  · rw [Shape.rowMajor_val_three, Shape.rowMajor_val_two]
    show (R.val * 64 + i.val) * 64 + j.val = r % 262144 * 16 + c % 16
    rw [Nat.mod_eq_of_lt hr, Nat.mod_eq_of_lt hc]
    omega
  · fin_cases a
    · rfl
    · show i.val = 0 + i.val; omega
    · show j.val = 0 + j.val; omega

theorem scA_apply (l : ℕ) : scA m d (at16 l) = argA m d (ix1 ⟨l % 8, Nat.mod_lt _ (by decide)⟩) := by
  rw [read_v0]
  by_cases h : l % 16 < 8
  · refine concatenate_pair_apply_left (t := S16) (s₁ := S8) (s₂ := S8) (0 : Fin 1) (argA m d) (argA m d) _ _ rfl _ fun a => ?_
    fin_cases a
    show l % 8 = l % 16
    omega
  · refine concatenate_pair_apply_right (t := S16) (s₁ := S8) (s₂ := S8) (0 : Fin 1) (argA m d) (argA m d) _ _ rfl rfl _ (fun a ha => ?_) ?_
    · fin_cases a; exact absurd rfl ha
    · show l % 8 + 8 = l % 16
      omega

theorem scM_apply (i : Fin 64) : scM m d (at64 i.val) = (argM m d (ix1 i)).setWidth 32 := by
  rw [read_v1]
  have h : at64 i.val = ix1 i := by
    funext a; fin_cases a
    exact Fin.ext (Nat.mod_eq_of_lt i.isLt)
  rw [h]
  rfl

theorem v17_apply (b : Fin 16384) (k : Fin 4096) : W3 m d (at' main_v17) (ix2 b k) = argX m d (ix3 b (rowOf k) (colOf k)) := by
  rw [read_v17]
  refine shapeCast_apply _ _ _ (ix3 b (rowOf k) (colOf k)) ?_
  rw [Shape.rowMajor_val_three, Shape.rowMajor_val_two]
  show (b.val * 64 + k.val / 64) * 64 + k.val % 64 = b.val * 4096 + k.val
  omega

theorem v2_apply (a : Fin 8) : W3 m d (at' main_v2) (ix2 0 a) = argA m d (ix1 a) := by
  rw [W3_eq_W1 m d (by decide) (by decide) (by decide), read_v2]
  refine shapeCast_apply _ _ _ (ix1 a) ?_
  rw [Shape.rowMajor_val_one, Shape.rowMajor_val_two]
  show a.val = 0 * 8 + a.val
  omega

theorem v6_apply (k : Fin 4096) : W3 m d (at' main_v6) (ix2 0 k) = (argM m d (ix1 (rowOf k))).setWidth 32 := by
  rw [W3_eq_W1 m d (by decide) (by decide) (by decide), read_v6]
  refine (shapeCast_apply _ _ _ (ix1 k) ?_).trans ((shapeCast_apply _ _ _ (ix2 (rowOf k) (colOf k)) ?_).trans
    (broadcastInDim_apply _ _ _ _ (ix1 (rowOf k)) fun a => by fin_cases a; rfl))
  · rw [Shape.rowMajor_val_one, Shape.rowMajor_val_two]
    show k.val = 0 * 4096 + k.val
    omega
  · rw [Shape.rowMajor_val_one, Shape.rowMajor_val_two]
    show k.val / 64 * 64 + k.val % 64 = k.val
    omega

/-- Two coordinates compared as words, the first with 0 added, and the answer read as a number. -/
theorem indicator (i j : Fin 64) :
    (((IntOp.cmpi .eq (IntOp.addi (BitVec.ofNat 32 i.val) 0#32) (BitVec.ofNat 32 j.val)).toNat : ℝ) : EReal) = if i = j then 1 else 0 := by
  have h : (IntOp.cmpi .eq (IntOp.addi (BitVec.ofNat 32 i.val) 0#32) (BitVec.ofNat 32 j.val)) = BitVec.ofBool (decide (i = j)) := by
    revert i j; decide +kernel
  rw [h]
  by_cases e : i = j <;> simp [e]

theorem v13_apply (k : Fin 4096) : W3 m d (at' main_v13) (ix2 k 0) = if rowOf k = colOf k then (1 : EReal) else 0 := by
  rw [W3_eq_W1 m d (by decide) (by decide) (by decide), read_v13, ← indicator]
  refine (shapeCast_apply _ _ _ (ix2 (rowOf k) (colOf k)) ?_).trans rfl
  rw [Shape.rowMajor_val_two, Shape.rowMajor_val_two]
  show k.val / 64 * 64 + k.val % 64 = k.val * 1 + 0
  omega

/-! ## The results -/

theorem read_v20 : W5 m d (at' main_v20) = concatenate S16384x8 0 [⟨S15360x8, W4 m d (at' main_v18_0)⟩,
    ⟨S1024x8, shapeCast S1024x8 (W4 m d (at' main_v16_0)) shapeCasts_S8192_S1024x8⟩] concatenates_S15360x8_S1024x8_S16384x8_d0 := by
  unfold W5 ops3; after_results_simp; rfl
theorem read_v22 : W5 m d (at' main_v22) = concatenate S16384 0 [⟨S15360, shapeCast S15360 (W4 m d (at' main_v18_1)) shapeCasts_S15360x1_S15360⟩,
    ⟨S1024, W4 m d (at' main_v16_1)⟩] concatenates_S15360_S1024_S16384_d0 := by
  unfold W5 ops3; after_results_simp; rfl

theorem W4_v16_0 : W4 m d (at' main_v16_0) = apOut (scX m d) (scA m d) (scM m d) := by
  rw [W4_of_ne m d (by decide) (by decide), W3_of_not_mem m d (by decide), W2_ap]
theorem W4_v16_1 : W4 m d (at' main_v16_1) = pvOut (scX m d) := by
  rw [W4_of_ne m d (by decide) (by decide), W3_of_not_mem m d (by decide), W2_pv]

/-- The kernel's first result, entry by entry. -/
theorem v20_apply (b : Fin 16384) (a : Fin 8) : W5 m d (at' main_v20) (ix2 b a) = prob (argX m d) (argA m d) (argM m d) b a := by
  rw [read_v20, W4_ap, W4_v16_0]
  by_cases h : b.val < 15360
  · refine (concatenate_pair_apply_left (t := S16384x8) (s₁ := S15360x8) (s₂ := S1024x8) (0 : Fin 2) _ _ _ (ix2 b a) rfl (ix2 ⟨b.val, h⟩ a) (fun c => by fin_cases c <;> rfl)).trans ?_
    exact apTop_eq (v17_apply m d) (v2_apply m d) (v6_apply m d) (v13_apply m d) ⟨b.val, h⟩ a
  · have hb : low ⟨b.val - 15360, by omega⟩ = b := Fin.ext (by show 15360 + (b.val - 15360) = b.val; omega)
    refine (concatenate_pair_apply_right (t := S16384x8) (s₁ := S15360x8) (s₂ := S1024x8) (0 : Fin 2) _ _ _ (ix2 b a) rfl rfl (ix2 ⟨b.val - 15360, by omega⟩ a) (fun c hc => ?_) ?_).trans
      ((shapeCast_apply _ _ _ (ix1 ⟨8 * (b.val - 15360) + a.val, by omega⟩) ?_).trans
        ((apOut_eq (holds_scX m d) (scA_apply m d) (scM_apply m d) ⟨b.val - 15360, by omega⟩ a _ rfl).trans (by rw [hb])))
    · fin_cases c
      · exact absurd rfl hc
      · rfl
    · show b.val - 15360 + 15360 = b.val
      omega
    · rw [Shape.rowMajor_val_one, Shape.rowMajor_val_two]
      show 8 * (b.val - 15360) + a.val = (b.val - 15360) * 8 + a.val
      omega

/-- The kernel's second result, entry by entry. -/
theorem v22_apply (b : Fin 16384) : W5 m d (at' main_v22) (ix1 b) = gap (argX m d) b := by
  rw [read_v22, W4_pv, W4_v16_1]
  by_cases h : b.val < 15360
  · refine (concatenate_pair_apply_left (t := S16384) (s₁ := S15360) (s₂ := S1024) (0 : Fin 1) _ _ _ (ix1 b) rfl (ix1 ⟨b.val, h⟩) (fun c => by fin_cases c; rfl)).trans
      ((shapeCast_apply _ _ _ (ix2 ⟨b.val, h⟩ 0) ?_).trans (pvTop_eq (v17_apply m d) ⟨b.val, h⟩))
    rw [Shape.rowMajor_val_one, Shape.rowMajor_val_two]
    show b.val * 1 + 0 = b.val
    omega
  · have hb : low ⟨b.val - 15360, by omega⟩ = b := Fin.ext (by show 15360 + (b.val - 15360) = b.val; omega)
    refine (concatenate_pair_apply_right (t := S16384) (s₁ := S15360) (s₂ := S1024) (0 : Fin 1) _ _ _ (ix1 b) rfl rfl (ix1 ⟨b.val - 15360, by omega⟩) (fun c hc => ?_) ?_).trans
      ((pvOut_eq (holds_scX m d) ⟨b.val - 15360, by omega⟩).trans (by rw [hb]))
    · fin_cases c; exact absurd rfl hc
    · show b.val - 15360 + 15360 = b.val
      omega

theorem v20_eq : W5 m d (at' main_v20) = refProb (argX m d) (argA m d) (argM m d) := by
  funext y
  obtain ⟨b, a, rfl⟩ : ∃ b a, y = ix2 b a := ⟨_, _, eq_ix2 y⟩
  exact (v20_apply m d b a).trans (refProb_apply _ _ _ b a).symm
theorem v22_eq : W5 m d (at' main_v22) = refGap (argX m d) := by
  funext y
  obtain ⟨b, rfl⟩ : ∃ b, y = ix1 b := ⟨_, eq_ix1 y⟩
  exact (v22_apply m d b).trans (refGap_apply _ b).symm

/-! ## The claim -/

/-- The reference's composed term is the one stated in `Plain`. -/
theorem ref_res (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v25 m' c = refProb (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) := rfl

/-- From arguments that agree, the kernel's two results and the reference's are the same extended reals. -/
theorem algebraic : Cert.algebraic_KernelIdeal_ReferenceIdeal := by
  intro m g m' g' _ hagree
  refine ⟨fun c => W5 m c (at' main_v20), fun c => W5 m c (at' main_v22), ?_, ?_⟩
  · exact (θ_run Cert.KernelIdeal.defs _ _).mono
      (fun _ h c => ⟨h.1 c _ (at'_mem main_v20 rfl), h.1 c _ (at'_mem main_v22 rfl), args_kept m h c⟩) (run_main (F := Ideal) m g)
  · refine (θ_run Cert.ReferenceIdeal.defs _ _).mono (fun _ h c => ⟨(h c).1.trans ?_, (h c).2.1.trans ?_, (h c).2.2⟩)
      (Cert.ReferenceIdeal.Value.run (F := Ideal) m' g')
    · refine Eq.trans ?_ (v20_eq m c).symm
      rw [ref_res, (hagree c).1, (hagree c).2.1, (hagree c).2.2]
    · refine Eq.trans ?_ (v22_eq m c).symm
      rw [(hagree c).1]
      rfl

end Cert.Proof.Sc

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Equal

@[expose] public section

noncomputable section

namespace Cert.Proof

/-- All five claims: three frames, `preserves` and `algebraic`. -/
theorem claim : Cert.Claim :=
  ⟨Cert.Kernel.Gen.facts, Cert.KernelIdeal.Gen.facts, Cert.ReferenceIdeal.Gen.facts,
    Sc.frame_kernel, Sc.frame_kernelIdeal, Sc.frame_reference, trivial, Sc.algebraic⟩

end Cert.Proof

end
